-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S192x1024 : Shape := ⟨2, ![192, 1024]⟩
abbrev S160x1024 : Shape := ⟨2, ![160, 1024]⟩
abbrev S256x1024 : Shape := ⟨2, ![256, 1024]⟩
abbrev S6x5 : Shape := ⟨2, ![6, 5]⟩
abbrev S6 : Shape := ⟨1, ![6]⟩
abbrev S_ : Shape := ⟨0, ![]⟩
abbrev S1 : Shape := ⟨1, ![1]⟩
abbrev S48x1024 : Shape := ⟨2, ![48, 1024]⟩
abbrev S40x1024 : Shape := ⟨2, ![40, 1024]⟩
abbrev S1x1 : Shape := ⟨2, ![1, 1]⟩
abbrev S80x1024 : Shape := ⟨2, ![80, 1024]⟩
abbrev S1x80x1024 : Shape := ⟨3, ![1, 80, 1024]⟩
abbrev S96x1024 : Shape := ⟨2, ![96, 1024]⟩
abbrev S1x96x1024 : Shape := ⟨3, ![1, 96, 1024]⟩
abbrev S40 : Shape := ⟨1, ![40]⟩
abbrev S40x1 : Shape := ⟨2, ![40, 1]⟩
abbrev S1x1024 : Shape := ⟨2, ![1, 1024]⟩
abbrev S48 : Shape := ⟨1, ![48]⟩
abbrev S48x1 : Shape := ⟨2, ![48, 1]⟩

abbrev nBuf : Space → Nat
  | .hbm => 4
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1x1024x1024, .f32⟩
  | .local _ .vmem, ⟨1, _⟩ => ⟨S1024, .f32⟩
  | .local _ .vmem, ⟨2, _⟩ => ⟨S1024x1024, .f32⟩
  | .local _ .vmem, ⟨3, _⟩ => ⟨S1024x1024, .f32⟩
  | .local _ .vmem, ⟨4, _⟩ => ⟨S192x1024, .f32⟩
  | .local _ .vmem, ⟨5, _⟩ => ⟨S160x1024, .f32⟩
  | .local _ .vmem, ⟨6, _⟩ => ⟨S192x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_68 : BitVec 32 := 4#32
  let v91 : BitVec 32 := Scalar.divsi v2 c4_i32_68
  let c4_i32_69 : BitVec 32 := 4#32
  let v92 : BitVec 32 := Scalar.muli v91 c4_i32_69
  let c4_i32_67 : BitVec 32 := 4#32
  let v90 : BitVec 32 := Scalar.remsi v2 c4_i32_67
  let c1_i32_70 : BitVec 32 := 1#32
  let v93 : BitVec 32 := Scalar.xori v90 c1_i32_70
  let v94 : BitVec 32 := Scalar.addi v92 v93
  let c1_i32_72 : BitVec 32 := 1#32
  let v95 : BitVec 32 := Scalar.muli v94 c1_i32_72
  let v96 : BitVec 32 := Scalar.addi c0_i32 v95
  v96.toNat
def k0_dev2 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v98 : BitVec 32 := Scalar.divsi v2 c4_i32_74
  let c4_i32_75 : BitVec 32 := 4#32
  let v99 : BitVec 32 := Scalar.muli v98 c4_i32_75
  let c3_i32_76 : BitVec 32 := 3#32
  let c4_i32_73 : BitVec 32 := 4#32
  let v97 : BitVec 32 := Scalar.remsi v2 c4_i32_73
  let v100 : BitVec 32 := Scalar.subi c3_i32_76 v97
  let v101 : BitVec 32 := Scalar.addi v99 v100
  let c1_i32_78 : BitVec 32 := 1#32
  let v102 : BitVec 32 := Scalar.muli v101 c1_i32_78
  let v103 : BitVec 32 := Scalar.addi c0_i32_79 v102
  v103.toNat
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_80 : BitVec 32 := 4#32
  let v104 : BitVec 32 := Scalar.xori v2 c4_i32_80
  let c1_i32_82 : BitVec 32 := 1#32
  let v105 : BitVec 32 := Scalar.muli v104 c1_i32_82
  let v106 : BitVec 32 := Scalar.addi c0_i32_83 v105
  v106.toNat
def k0_off1 (d0 : Dev nD) : Fin 2 → Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v8 : BitVec 32 := Scalar.divsi v3 c2_i32
  let v9 : BitVec 32 := Scalar.xori v3 v8
  let c1_i32_3 : BitVec 32 := 1#32
  let v10 : BitVec 32 := Scalar.andi v9 c1_i32_3
  let c96_i32 : BitVec 32 := 96#32
  let v107 : BitVec 32 := Scalar.muli v10 c96_i32
  let v108 : BitVec 32 := Scalar.addi c0_i32_85 v107
  let c4_i32_4 : BitVec 32 := 4#32
  let v11 : BitVec 32 := Scalar.remsi v2 c4_i32_4
  let c2_i32_7 : BitVec 32 := 2#32
  let v16 : BitVec 32 := Scalar.divsi v11 c2_i32_7
  let c48_i32 : BitVec 32 := 48#32
  let v109 : BitVec 32 := Scalar.muli v16 c48_i32
  let v110 : BitVec 32 := Scalar.addi v108 v109
  let c0_i32_89 : BitVec 32 := 0#32
  ![v110.toNat, 0]
def k0_off2 (d0 : Dev nD) : Fin 2 → Nat :=
  let c192_i32 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v18 : BitVec 32 := Scalar.remsi v2 c4_i32_9
  let c2_i32_13 : BitVec 32 := 2#32
  let v23 : BitVec 32 := Scalar.divsi v18 c2_i32_13
  let v24 : BitVec 32 := Scalar.xori v18 v23
  let c1_i32_14 : BitVec 32 := 1#32
  let v25 : BitVec 32 := Scalar.andi v24 c1_i32_14
  let c80_i32 : BitVec 32 := 80#32
  let v115 : BitVec 32 := Scalar.muli v25 c80_i32
  let v116 : BitVec 32 := Scalar.addi c192_i32 v115
  let c4_i32_15 : BitVec 32 := 4#32
  let v26 : BitVec 32 := Scalar.divsi v2 c4_i32_15
  let c40_i32 : BitVec 32 := 40#32
  let v117 : BitVec 32 := Scalar.muli v26 c40_i32
  let v118 : BitVec 32 := Scalar.addi v116 v117
  let c0_i32_93 : BitVec 32 := 0#32
  ![v118.toNat, 0]
def k0_off3 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v33 : BitVec 32 := Scalar.remsi v2 c4_i32_21
  let c2_i32_25 : BitVec 32 := 2#32
  let v38 : BitVec 32 := Scalar.divsi v33 c2_i32_25
  let c96_i32_94 : BitVec 32 := 96#32
  let v123 : BitVec 32 := Scalar.muli v38 c96_i32_94
  let v124 : BitVec 32 := Scalar.addi c352_i32 v123
  let c4_i32_26 : BitVec 32 := 4#32
  let v39 : BitVec 32 := Scalar.divsi v2 c4_i32_26
  let c48_i32_95 : BitVec 32 := 48#32
  let v125 : BitVec 32 := Scalar.muli v39 c48_i32_95
  let v126 : BitVec 32 := Scalar.addi v124 v125
  let c0_i32_98 : BitVec 32 := 0#32
  ![v126.toNat, 0]
def k0_off4 (d0 : Dev nD) : Fin 2 → Nat :=
  let c544_i32 : BitVec 32 := 544#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v46 : BitVec 32 := Scalar.remsi v2 c4_i32_32
  let c2_i32_36 : BitVec 32 := 2#32
  let v51 : BitVec 32 := Scalar.divsi v46 c2_i32_36
  let c80_i32_99 : BitVec 32 := 80#32
  let v131 : BitVec 32 := Scalar.muli v51 c80_i32_99
  let v132 : BitVec 32 := Scalar.addi c544_i32 v131
  let c4_i32_37 : BitVec 32 := 4#32
  let v52 : BitVec 32 := Scalar.remsi v2 c4_i32_37
  let c2_i32_41 : BitVec 32 := 2#32
  let v57 : BitVec 32 := Scalar.divsi v52 c2_i32_41
  let v58 : BitVec 32 := Scalar.xori v52 v57
  let c1_i32_42 : BitVec 32 := 1#32
  let v59 : BitVec 32 := Scalar.andi v58 c1_i32_42
  let c40_i32_100 : BitVec 32 := 40#32
  let v133 : BitVec 32 := Scalar.muli v59 c40_i32_100
  let v134 : BitVec 32 := Scalar.addi v132 v133
  let c0_i32_103 : BitVec 32 := 0#32
  ![v134.toNat, 0]
def k0_off5 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v61 : BitVec 32 := Scalar.divsi v2 c4_i32_44
  let c80_i32_104 : BitVec 32 := 80#32
  let v139 : BitVec 32 := Scalar.muli v61 c80_i32_104
  let v140 : BitVec 32 := Scalar.addi c704_i32 v139
  let c4_i32_46 : BitVec 32 := 4#32
  let v63 : BitVec 32 := Scalar.remsi v2 c4_i32_46
  let c2_i32_50 : BitVec 32 := 2#32
  let v68 : BitVec 32 := Scalar.divsi v63 c2_i32_50
  let v69 : BitVec 32 := Scalar.xori v63 v68
  let c1_i32_51 : BitVec 32 := 1#32
  let v70 : BitVec 32 := Scalar.andi v69 c1_i32_51
  let c40_i32_105 : BitVec 32 := 40#32
  let v141 : BitVec 32 := Scalar.muli v70 c40_i32_105
  let v142 : BitVec 32 := Scalar.addi v140 v141
  let c0_i32_108 : BitVec 32 := 0#32
  ![v142.toNat, 0]
def k0_off6 (d0 : Dev nD) : Fin 2 → Nat :=
  let c864_i32 : BitVec 32 := 864#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v76 : BitVec 32 := Scalar.divsi v2 c4_i32_56
  let c80_i32_109 : BitVec 32 := 80#32
  let v147 : BitVec 32 := Scalar.muli v76 c80_i32_109
  let v148 : BitVec 32 := Scalar.addi c864_i32 v147
  let c4_i32_58 : BitVec 32 := 4#32
  let v78 : BitVec 32 := Scalar.remsi v2 c4_i32_58
  let c2_i32_62 : BitVec 32 := 2#32
  let v83 : BitVec 32 := Scalar.divsi v78 c2_i32_62
  let c40_i32_110 : BitVec 32 := 40#32
  let v149 : BitVec 32 := Scalar.muli v83 c40_i32_110
  let v150 : BitVec 32 := Scalar.addi v148 v149
  let c0_i32_112 : BitVec 32 := 0#32
  ![v150.toNat, 0]
def k0_off7 (d0 : Dev nD) : Fin 3 → Nat :=
  let c0_i32_116 : BitVec 32 := 0#32
  let c192_i32_115 : BitVec 32 := 192#32
  let c1_i32_113 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v18 : BitVec 32 := Scalar.remsi v2 c4_i32_9
  let c2_i32_13 : BitVec 32 := 2#32
  let v23 : BitVec 32 := Scalar.divsi v18 c2_i32_13
  let v24 : BitVec 32 := Scalar.xori v18 v23
  let c1_i32_14 : BitVec 32 := 1#32
  let v25 : BitVec 32 := Scalar.andi v24 c1_i32_14
  let v155 : BitVec 32 := Scalar.subi c1_i32_113 v25
  let c80_i32_114 : BitVec 32 := 80#32
  let v156 : BitVec 32 := Scalar.muli v155 c80_i32_114
  let v157 : BitVec 32 := Scalar.addi c192_i32_115 v156
  let c0_i32_125 : BitVec 32 := 0#32
  ![0, v157.toNat, 0]
def k0_dev4 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 32 := Scalar.divsi v2 c4_i32_10
  let c4_i32_11 : BitVec 32 := 4#32
  let v20 : BitVec 32 := Scalar.muli v19 c4_i32_11
  let c4_i32_9 : BitVec 32 := 4#32
  let v18 : BitVec 32 := Scalar.remsi v2 c4_i32_9
  let c1_i32_12 : BitVec 32 := 1#32
  let v21 : BitVec 32 := Scalar.xori v18 c1_i32_12
  let v22 : BitVec 32 := Scalar.addi v20 v21
  let c1_i32_121 : BitVec 32 := 1#32
  let v158 : BitVec 32 := Scalar.muli v22 c1_i32_121
  let v159 : BitVec 32 := Scalar.addi c0_i32_122 v158
  v159.toNat
def k0_off8 (d0 : Dev nD) : Fin 3 → Nat :=
  let c0_i32_129 : BitVec 32 := 0#32
  let c544_i32_128 : BitVec 32 := 544#32
  let c1_i32_126 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v46 : BitVec 32 := Scalar.remsi v2 c4_i32_32
  let c2_i32_36 : BitVec 32 := 2#32
  let v51 : BitVec 32 := Scalar.divsi v46 c2_i32_36
  let v167 : BitVec 32 := Scalar.subi c1_i32_126 v51
  let c80_i32_127 : BitVec 32 := 80#32
  let v168 : BitVec 32 := Scalar.muli v167 c80_i32_127
  let v169 : BitVec 32 := Scalar.addi c544_i32_128 v168
  let c0_i32_138 : BitVec 32 := 0#32
  ![0, v169.toNat, 0]
def k0_dev5 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v47 : BitVec 32 := Scalar.divsi v2 c4_i32_33
  let c4_i32_34 : BitVec 32 := 4#32
  let v48 : BitVec 32 := Scalar.muli v47 c4_i32_34
  let c3_i32_35 : BitVec 32 := 3#32
  let c4_i32_32 : BitVec 32 := 4#32
  let v46 : BitVec 32 := Scalar.remsi v2 c4_i32_32
  let v49 : BitVec 32 := Scalar.subi c3_i32_35 v46
  let v50 : BitVec 32 := Scalar.addi v48 v49
  let c1_i32_134 : BitVec 32 := 1#32
  let v170 : BitVec 32 := Scalar.muli v50 c1_i32_134
  let v171 : BitVec 32 := Scalar.addi c0_i32_135 v170
  v171.toNat
def k0_off9 (d0 : Dev nD) (c704_i32_141 : BitVec 32) : Fin 3 → Nat :=
  let c0_i32_142 : BitVec 32 := 0#32
  let c1_i32_139 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v61 : BitVec 32 := Scalar.divsi v2 c4_i32_44
  let v179 : BitVec 32 := Scalar.subi c1_i32_139 v61
  let c80_i32_140 : BitVec 32 := 80#32
  let v180 : BitVec 32 := Scalar.muli v179 c80_i32_140
  let v181 : BitVec 32 := Scalar.addi c704_i32_141 v180
  let c0_i32_151 : BitVec 32 := 0#32
  ![0, v181.toNat, 0]
def k0_dev6 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v62 : BitVec 32 := Scalar.xori v2 c4_i32_45
  let c1_i32_147 : BitVec 32 := 1#32
  let v182 : BitVec 32 := Scalar.muli v62 c1_i32_147
  let v183 : BitVec 32 := Scalar.addi c0_i32_148 v182
  v183.toNat
def k0_dev7 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v77 : BitVec 32 := Scalar.xori v2 c4_i32_57
  let c1_i32_160 : BitVec 32 := 1#32
  let v194 : BitVec 32 := Scalar.muli v77 c1_i32_160
  let v195 : BitVec 32 := Scalar.addi c0_i32_161 v194
  v195.toNat
def k0_off10 (d0 : Dev nD) : Fin 3 → Nat :=
  let c0_i32_168 : BitVec 32 := 0#32
  let c0_i32_167 : BitVec 32 := 0#32
  let c1_i32_165 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v8 : BitVec 32 := Scalar.divsi v3 c2_i32
  let v9 : BitVec 32 := Scalar.xori v3 v8
  let c1_i32_3 : BitVec 32 := 1#32
  let v10 : BitVec 32 := Scalar.andi v9 c1_i32_3
  let v203 : BitVec 32 := Scalar.subi c1_i32_165 v10
  let c96_i32_166 : BitVec 32 := 96#32
  let v204 : BitVec 32 := Scalar.muli v203 c96_i32_166
  let v205 : BitVec 32 := Scalar.addi c0_i32_167 v204
  let c0_i32_177 : BitVec 32 := 0#32
  ![0, v205.toNat, 0]
def k0_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.xori v3 c1_i32_2
  let v7 : BitVec 32 := Scalar.addi v5 v6
  let c1_i32_173 : BitVec 32 := 1#32
  let v206 : BitVec 32 := Scalar.muli v7 c1_i32_173
  let v207 : BitVec 32 := Scalar.addi c0_i32_174 v206
  v207.toNat
def k0_off11 (d0 : Dev nD) : Fin 3 → Nat :=
  let c0_i32_181 : BitVec 32 := 0#32
  let c352_i32_180 : BitVec 32 := 352#32
  let c1_i32_178 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v33 : BitVec 32 := Scalar.remsi v2 c4_i32_21
  let c2_i32_25 : BitVec 32 := 2#32
  let v38 : BitVec 32 := Scalar.divsi v33 c2_i32_25
  let v215 : BitVec 32 := Scalar.subi c1_i32_178 v38
  let c96_i32_179 : BitVec 32 := 96#32
  let v216 : BitVec 32 := Scalar.muli v215 c96_i32_179
  let v217 : BitVec 32 := Scalar.addi c352_i32_180 v216
  let c0_i32_190 : BitVec 32 := 0#32
  ![0, v217.toNat, 0]
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v34 : BitVec 32 := Scalar.divsi v2 c4_i32_22
  let c4_i32_23 : BitVec 32 := 4#32
  let v35 : BitVec 32 := Scalar.muli v34 c4_i32_23
  let c3_i32_24 : BitVec 32 := 3#32
  let c4_i32_21 : BitVec 32 := 4#32
  let v33 : BitVec 32 := Scalar.remsi v2 c4_i32_21
  let v36 : BitVec 32 := Scalar.subi c3_i32_24 v33
  let v37 : BitVec 32 := Scalar.addi v35 v36
  let c1_i32_186 : BitVec 32 := 1#32
  let v218 : BitVec 32 := Scalar.muli v37 c1_i32_186
  let v219 : BitVec 32 := Scalar.addi c0_i32_187 v218
  v219.toNat
def k0_off12 (d0 : Dev nD) : Fin 3 → Nat :=
  let c0 : Index := 0#32
  let c192_i32_211 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v18 : BitVec 32 := Scalar.remsi v2 c4_i32_9
  let c2_i32_13 : BitVec 32 := 2#32
  let v23 : BitVec 32 := Scalar.divsi v18 c2_i32_13
  let v24 : BitVec 32 := Scalar.xori v18 v23
  let c1_i32_14 : BitVec 32 := 1#32
  let v25 : BitVec 32 := Scalar.andi v24 c1_i32_14
  let c80_i32_210 : BitVec 32 := 80#32
  let v239 : BitVec 32 := Scalar.muli v25 c80_i32_210
  let v240 : BitVec 32 := Scalar.addi c192_i32_211 v239
  let v241 : Index := Scalar.indexCast v240
  let c0_212 : Index := 0#32
  ![0, v241.toNat, 0]
def k0_off13 (d0 : Dev nD) : Fin 2 → Nat :=
  let c192_i32_211 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v18 : BitVec 32 := Scalar.remsi v2 c4_i32_9
  let c2_i32_13 : BitVec 32 := 2#32
  let v23 : BitVec 32 := Scalar.divsi v18 c2_i32_13
  let v24 : BitVec 32 := Scalar.xori v18 v23
  let c1_i32_14 : BitVec 32 := 1#32
  let v25 : BitVec 32 := Scalar.andi v24 c1_i32_14
  let c80_i32_210 : BitVec 32 := 80#32
  let v239 : BitVec 32 := Scalar.muli v25 c80_i32_210
  let v240 : BitVec 32 := Scalar.addi c192_i32_211 v239
  let v246 : Index := Scalar.indexCast v240
  let c0_215 : Index := 0#32
  ![v246.toNat, 0]
def k0_off14 (d0 : Dev nD) : Fin 2 → Nat :=
  let c192_i32_217 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v18 : BitVec 32 := Scalar.remsi v2 c4_i32_9
  let c2_i32_13 : BitVec 32 := 2#32
  let v23 : BitVec 32 := Scalar.divsi v18 c2_i32_13
  let v24 : BitVec 32 := Scalar.xori v18 v23
  let c1_i32_14 : BitVec 32 := 1#32
  let v25 : BitVec 32 := Scalar.andi v24 c1_i32_14
  let c80_i32_216 : BitVec 32 := 80#32
  let v250 : BitVec 32 := Scalar.muli v25 c80_i32_216
  let v251 : BitVec 32 := Scalar.addi c192_i32_217 v250
  let c1_i32_218 : BitVec 32 := 1#32
  let c4_i32_15 : BitVec 32 := 4#32
  let v26 : BitVec 32 := Scalar.divsi v2 c4_i32_15
  let v252 : BitVec 32 := Scalar.subi c1_i32_218 v26
  let c40_i32_219 : BitVec 32 := 40#32
  let v253 : BitVec 32 := Scalar.muli v252 c40_i32_219
  let v254 : BitVec 32 := Scalar.addi v251 v253
  let c0_i32_228 : BitVec 32 := 0#32
  ![v254.toNat, 0]
def k0_dev10 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_16 : BitVec 32 := 4#32
  let v27 : BitVec 32 := Scalar.xori v2 c4_i32_16
  let c1_i32_224 : BitVec 32 := 1#32
  let v255 : BitVec 32 := Scalar.muli v27 c1_i32_224
  let v256 : BitVec 32 := Scalar.addi c0_i32_225 v255
  v256.toNat
def k0_off15 (d0 : Dev nD) : Fin 3 → Nat :=
  let c0_250 : Index := 0#32
  let c544_i32_249 : BitVec 32 := 544#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v46 : BitVec 32 := Scalar.remsi v2 c4_i32_32
  let c2_i32_36 : BitVec 32 := 2#32
  let v51 : BitVec 32 := Scalar.divsi v46 c2_i32_36
  let c80_i32_248 : BitVec 32 := 80#32
  let v275 : BitVec 32 := Scalar.muli v51 c80_i32_248
  let v276 : BitVec 32 := Scalar.addi c544_i32_249 v275
  let v277 : Index := Scalar.indexCast v276
  let c0_251 : Index := 0#32
  ![0, v277.toNat, 0]
def k0_off16 (d0 : Dev nD) : Fin 2 → Nat :=
  let c544_i32_249 : BitVec 32 := 544#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v46 : BitVec 32 := Scalar.remsi v2 c4_i32_32
  let c2_i32_36 : BitVec 32 := 2#32
  let v51 : BitVec 32 := Scalar.divsi v46 c2_i32_36
  let c80_i32_248 : BitVec 32 := 80#32
  let v275 : BitVec 32 := Scalar.muli v51 c80_i32_248
  let v276 : BitVec 32 := Scalar.addi c544_i32_249 v275
  let v282 : Index := Scalar.indexCast v276
  let c0_254 : Index := 0#32
  ![v282.toNat, 0]
def k0_off17 (d0 : Dev nD) : Fin 2 → Nat :=
  let c544_i32_256 : BitVec 32 := 544#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v46 : BitVec 32 := Scalar.remsi v2 c4_i32_32
  let c2_i32_36 : BitVec 32 := 2#32
  let v51 : BitVec 32 := Scalar.divsi v46 c2_i32_36
  let c80_i32_255 : BitVec 32 := 80#32
  let v286 : BitVec 32 := Scalar.muli v51 c80_i32_255
  let v287 : BitVec 32 := Scalar.addi c544_i32_256 v286
  let c1_i32_257 : BitVec 32 := 1#32
  let c4_i32_37 : BitVec 32 := 4#32
  let v52 : BitVec 32 := Scalar.remsi v2 c4_i32_37
  let c2_i32_41 : BitVec 32 := 2#32
  let v57 : BitVec 32 := Scalar.divsi v52 c2_i32_41
  let v58 : BitVec 32 := Scalar.xori v52 v57
  let c1_i32_42 : BitVec 32 := 1#32
  let v59 : BitVec 32 := Scalar.andi v58 c1_i32_42
  let v288 : BitVec 32 := Scalar.subi c1_i32_257 v59
  let c40_i32_258 : BitVec 32 := 40#32
  let v289 : BitVec 32 := Scalar.muli v288 c40_i32_258
  let v290 : BitVec 32 := Scalar.addi v287 v289
  let c0_i32_267 : BitVec 32 := 0#32
  ![v290.toNat, 0]
def k0_dev11 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_38 : BitVec 32 := 4#32
  let v53 : BitVec 32 := Scalar.divsi v2 c4_i32_38
  let c4_i32_39 : BitVec 32 := 4#32
  let v54 : BitVec 32 := Scalar.muli v53 c4_i32_39
  let c4_i32_37 : BitVec 32 := 4#32
  let v52 : BitVec 32 := Scalar.remsi v2 c4_i32_37
  let c1_i32_40 : BitVec 32 := 1#32
  let v55 : BitVec 32 := Scalar.xori v52 c1_i32_40
  let v56 : BitVec 32 := Scalar.addi v54 v55
  let c1_i32_263 : BitVec 32 := 1#32
  let v291 : BitVec 32 := Scalar.muli v56 c1_i32_263
  let v292 : BitVec 32 := Scalar.addi c0_i32_264 v291
  v292.toNat
def k0_off18 (d0 : Dev nD) (c704_i32_288 : BitVec 32) : Fin 3 → Nat :=
  let c0_289 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v61 : BitVec 32 := Scalar.divsi v2 c4_i32_44
  let c80_i32_287 : BitVec 32 := 80#32
  let v311 : BitVec 32 := Scalar.muli v61 c80_i32_287
  let v312 : BitVec 32 := Scalar.addi c704_i32_288 v311
  let v313 : Index := Scalar.indexCast v312
  let c0_290 : Index := 0#32
  ![0, v313.toNat, 0]
def k0_off19 (d0 : Dev nD) (c704_i32_288 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v61 : BitVec 32 := Scalar.divsi v2 c4_i32_44
  let c80_i32_287 : BitVec 32 := 80#32
  let v311 : BitVec 32 := Scalar.muli v61 c80_i32_287
  let v312 : BitVec 32 := Scalar.addi c704_i32_288 v311
  let v318 : Index := Scalar.indexCast v312
  let c0_293 : Index := 0#32
  ![v318.toNat, 0]
def k0_off20 (d0 : Dev nD) : Fin 2 → Nat :=
  let c704_i32_295 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v61 : BitVec 32 := Scalar.divsi v2 c4_i32_44
  let c80_i32_294 : BitVec 32 := 80#32
  let v322 : BitVec 32 := Scalar.muli v61 c80_i32_294
  let v323 : BitVec 32 := Scalar.addi c704_i32_295 v322
  let c1_i32_296 : BitVec 32 := 1#32
  let c4_i32_46 : BitVec 32 := 4#32
  let v63 : BitVec 32 := Scalar.remsi v2 c4_i32_46
  let c2_i32_50 : BitVec 32 := 2#32
  let v68 : BitVec 32 := Scalar.divsi v63 c2_i32_50
  let v69 : BitVec 32 := Scalar.xori v63 v68
  let c1_i32_51 : BitVec 32 := 1#32
  let v70 : BitVec 32 := Scalar.andi v69 c1_i32_51
  let v324 : BitVec 32 := Scalar.subi c1_i32_296 v70
  let c40_i32_297 : BitVec 32 := 40#32
  let v325 : BitVec 32 := Scalar.muli v324 c40_i32_297
  let v326 : BitVec 32 := Scalar.addi v323 v325
  let c0_i32_306 : BitVec 32 := 0#32
  ![v326.toNat, 0]
def k0_dev12 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v64 : BitVec 32 := Scalar.divsi v2 c4_i32_47
  let c4_i32_48 : BitVec 32 := 4#32
  let v65 : BitVec 32 := Scalar.muli v64 c4_i32_48
  let c4_i32_46 : BitVec 32 := 4#32
  let v63 : BitVec 32 := Scalar.remsi v2 c4_i32_46
  let c1_i32_49 : BitVec 32 := 1#32
  let v66 : BitVec 32 := Scalar.xori v63 c1_i32_49
  let v67 : BitVec 32 := Scalar.addi v65 v66
  let c1_i32_302 : BitVec 32 := 1#32
  let v327 : BitVec 32 := Scalar.muli v67 c1_i32_302
  let v328 : BitVec 32 := Scalar.addi c0_i32_303 v327
  v328.toNat
def k0_off21 (d0 : Dev nD) : Fin 2 → Nat :=
  let c864_i32_334 : BitVec 32 := 864#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v76 : BitVec 32 := Scalar.divsi v2 c4_i32_56
  let c80_i32_333 : BitVec 32 := 80#32
  let v358 : BitVec 32 := Scalar.muli v76 c80_i32_333
  let v359 : BitVec 32 := Scalar.addi c864_i32_334 v358
  let c1_i32_335 : BitVec 32 := 1#32
  let c4_i32_58 : BitVec 32 := 4#32
  let v78 : BitVec 32 := Scalar.remsi v2 c4_i32_58
  let c2_i32_62 : BitVec 32 := 2#32
  let v83 : BitVec 32 := Scalar.divsi v78 c2_i32_62
  let v360 : BitVec 32 := Scalar.subi c1_i32_335 v83
  let c40_i32_336 : BitVec 32 := 40#32
  let v361 : BitVec 32 := Scalar.muli v360 c40_i32_336
  let v362 : BitVec 32 := Scalar.addi v359 v361
  let c0_i32_345 : BitVec 32 := 0#32
  ![v362.toNat, 0]
def k0_dev13 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_59 : BitVec 32 := 4#32
  let v79 : BitVec 32 := Scalar.divsi v2 c4_i32_59
  let c4_i32_60 : BitVec 32 := 4#32
  let v80 : BitVec 32 := Scalar.muli v79 c4_i32_60
  let c3_i32_61 : BitVec 32 := 3#32
  let c4_i32_58 : BitVec 32 := 4#32
  let v78 : BitVec 32 := Scalar.remsi v2 c4_i32_58
  let v81 : BitVec 32 := Scalar.subi c3_i32_61 v78
  let v82 : BitVec 32 := Scalar.addi v80 v81
  let c1_i32_341 : BitVec 32 := 1#32
  let v363 : BitVec 32 := Scalar.muli v82 c1_i32_341
  let v364 : BitVec 32 := Scalar.addi c0_i32_342 v363
  v364.toNat
def k0_off22 (d0 : Dev nD) : Fin 3 → Nat :=
  let c0_367 : Index := 0#32
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v8 : BitVec 32 := Scalar.divsi v3 c2_i32
  let v9 : BitVec 32 := Scalar.xori v3 v8
  let c1_i32_3 : BitVec 32 := 1#32
  let v10 : BitVec 32 := Scalar.andi v9 c1_i32_3
  let c96_i32_365 : BitVec 32 := 96#32
  let v383 : BitVec 32 := Scalar.muli v10 c96_i32_365
  let v384 : BitVec 32 := Scalar.addi c0_i32_366 v383
  let v385 : Index := Scalar.indexCast v384
  let c0_368 : Index := 0#32
  ![0, v385.toNat, 0]
def k0_off23 (d0 : Dev nD) : Fin 2 → Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v8 : BitVec 32 := Scalar.divsi v3 c2_i32
  let v9 : BitVec 32 := Scalar.xori v3 v8
  let c1_i32_3 : BitVec 32 := 1#32
  let v10 : BitVec 32 := Scalar.andi v9 c1_i32_3
  let c96_i32_365 : BitVec 32 := 96#32
  let v383 : BitVec 32 := Scalar.muli v10 c96_i32_365
  let v384 : BitVec 32 := Scalar.addi c0_i32_366 v383
  let v390 : Index := Scalar.indexCast v384
  let c0_371 : Index := 0#32
  ![v390.toNat, 0]
def k0_off24 (d0 : Dev nD) : Fin 2 → Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v8 : BitVec 32 := Scalar.divsi v3 c2_i32
  let v9 : BitVec 32 := Scalar.xori v3 v8
  let c1_i32_3 : BitVec 32 := 1#32
  let v10 : BitVec 32 := Scalar.andi v9 c1_i32_3
  let c96_i32_372 : BitVec 32 := 96#32
  let v394 : BitVec 32 := Scalar.muli v10 c96_i32_372
  let v395 : BitVec 32 := Scalar.addi c0_i32_373 v394
  let c1_i32_374 : BitVec 32 := 1#32
  let c4_i32_4 : BitVec 32 := 4#32
  let v11 : BitVec 32 := Scalar.remsi v2 c4_i32_4
  let c2_i32_7 : BitVec 32 := 2#32
  let v16 : BitVec 32 := Scalar.divsi v11 c2_i32_7
  let v396 : BitVec 32 := Scalar.subi c1_i32_374 v16
  let c48_i32_375 : BitVec 32 := 48#32
  let v397 : BitVec 32 := Scalar.muli v396 c48_i32_375
  let v398 : BitVec 32 := Scalar.addi v395 v397
  let c0_i32_384 : BitVec 32 := 0#32
  ![v398.toNat, 0]
def k0_dev14 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v12 : BitVec 32 := Scalar.divsi v2 c4_i32_5
  let c4_i32_6 : BitVec 32 := 4#32
  let v13 : BitVec 32 := Scalar.muli v12 c4_i32_6
  let c3_i32 : BitVec 32 := 3#32
  let c4_i32_4 : BitVec 32 := 4#32
  let v11 : BitVec 32 := Scalar.remsi v2 c4_i32_4
  let v14 : BitVec 32 := Scalar.subi c3_i32 v11
  let v15 : BitVec 32 := Scalar.addi v13 v14
  let c1_i32_380 : BitVec 32 := 1#32
  let v399 : BitVec 32 := Scalar.muli v15 c1_i32_380
  let v400 : BitVec 32 := Scalar.addi c0_i32_381 v399
  v400.toNat
def k0_off25 (d0 : Dev nD) : Fin 3 → Nat :=
  let c0_406 : Index := 0#32
  let c352_i32_405 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v33 : BitVec 32 := Scalar.remsi v2 c4_i32_21
  let c2_i32_25 : BitVec 32 := 2#32
  let v38 : BitVec 32 := Scalar.divsi v33 c2_i32_25
  let c96_i32_404 : BitVec 32 := 96#32
  let v419 : BitVec 32 := Scalar.muli v38 c96_i32_404
  let v420 : BitVec 32 := Scalar.addi c352_i32_405 v419
  let v421 : Index := Scalar.indexCast v420
  let c0_407 : Index := 0#32
  ![0, v421.toNat, 0]
def k0_off26 (d0 : Dev nD) : Fin 2 → Nat :=
  let c352_i32_405 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v33 : BitVec 32 := Scalar.remsi v2 c4_i32_21
  let c2_i32_25 : BitVec 32 := 2#32
  let v38 : BitVec 32 := Scalar.divsi v33 c2_i32_25
  let c96_i32_404 : BitVec 32 := 96#32
  let v419 : BitVec 32 := Scalar.muli v38 c96_i32_404
  let v420 : BitVec 32 := Scalar.addi c352_i32_405 v419
  let v426 : Index := Scalar.indexCast v420
  let c0_410 : Index := 0#32
  ![v426.toNat, 0]
def k0_off27 (d0 : Dev nD) : Fin 2 → Nat :=
  let c352_i32_412 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v33 : BitVec 32 := Scalar.remsi v2 c4_i32_21
  let c2_i32_25 : BitVec 32 := 2#32
  let v38 : BitVec 32 := Scalar.divsi v33 c2_i32_25
  let c96_i32_411 : BitVec 32 := 96#32
  let v430 : BitVec 32 := Scalar.muli v38 c96_i32_411
  let v431 : BitVec 32 := Scalar.addi c352_i32_412 v430
  let c1_i32_413 : BitVec 32 := 1#32
  let c4_i32_26 : BitVec 32 := 4#32
  let v39 : BitVec 32 := Scalar.divsi v2 c4_i32_26
  let v432 : BitVec 32 := Scalar.subi c1_i32_413 v39
  let c48_i32_414 : BitVec 32 := 48#32
  let v433 : BitVec 32 := Scalar.muli v432 c48_i32_414
  let v434 : BitVec 32 := Scalar.addi v431 v433
  let c0_i32_423 : BitVec 32 := 0#32
  ![v434.toNat, 0]
def k0_dev15 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_27 : BitVec 32 := 4#32
  let v40 : BitVec 32 := Scalar.xori v2 c4_i32_27
  let c1_i32_419 : BitVec 32 := 1#32
  let v435 : BitVec 32 := Scalar.muli v40 c1_i32_419
  let v436 : BitVec 32 := Scalar.addi c0_i32_420 v435
  v436.toNat
def k0_off28 (d0 : Dev nD) : Fin 2 → Nat :=
  let c192_i32_217 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v18 : BitVec 32 := Scalar.remsi v2 c4_i32_9
  let c2_i32_13 : BitVec 32 := 2#32
  let v23 : BitVec 32 := Scalar.divsi v18 c2_i32_13
  let v24 : BitVec 32 := Scalar.xori v18 v23
  let c1_i32_14 : BitVec 32 := 1#32
  let v25 : BitVec 32 := Scalar.andi v24 c1_i32_14
  let c80_i32_216 : BitVec 32 := 80#32
  let v250 : BitVec 32 := Scalar.muli v25 c80_i32_216
  let v251 : BitVec 32 := Scalar.addi c192_i32_217 v250
  let c4_i32_15 : BitVec 32 := 4#32
  let v26 : BitVec 32 := Scalar.divsi v2 c4_i32_15
  let c40_i32_441 : BitVec 32 := 40#32
  let v453 : BitVec 32 := Scalar.muli v26 c40_i32_441
  let v454 : BitVec 32 := Scalar.addi v251 v453
  let v455 : Index := Scalar.indexCast v454
  let c0_442 : Index := 0#32
  ![v455.toNat, 0]
def k0_dev16 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v29 : BitVec 32 := Scalar.divsi v2 c4_i32_18
  let c4_i32_19 : BitVec 32 := 4#32
  let v30 : BitVec 32 := Scalar.muli v29 c4_i32_19
  let c3_i32_20 : BitVec 32 := 3#32
  let c4_i32_17 : BitVec 32 := 4#32
  let v28 : BitVec 32 := Scalar.remsi v2 c4_i32_17
  let v31 : BitVec 32 := Scalar.subi c3_i32_20 v28
  let v32 : BitVec 32 := Scalar.addi v30 v31
  let c1_i32_450 : BitVec 32 := 1#32
  let v465 : BitVec 32 := Scalar.muli v32 c1_i32_450
  let v466 : BitVec 32 := Scalar.addi c0_i32_451 v465
  v466.toNat
def k0_off29 (d0 : Dev nD) : Fin 2 → Nat :=
  let c544_i32_256 : BitVec 32 := 544#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v46 : BitVec 32 := Scalar.remsi v2 c4_i32_32
  let c2_i32_36 : BitVec 32 := 2#32
  let v51 : BitVec 32 := Scalar.divsi v46 c2_i32_36
  let c80_i32_255 : BitVec 32 := 80#32
  let v286 : BitVec 32 := Scalar.muli v51 c80_i32_255
  let v287 : BitVec 32 := Scalar.addi c544_i32_256 v286
  let c4_i32_37 : BitVec 32 := 4#32
  let v52 : BitVec 32 := Scalar.remsi v2 c4_i32_37
  let c2_i32_41 : BitVec 32 := 2#32
  let v57 : BitVec 32 := Scalar.divsi v52 c2_i32_41
  let v58 : BitVec 32 := Scalar.xori v52 v57
  let c1_i32_42 : BitVec 32 := 1#32
  let v59 : BitVec 32 := Scalar.andi v58 c1_i32_42
  let c40_i32_471 : BitVec 32 := 40#32
  let v483 : BitVec 32 := Scalar.muli v59 c40_i32_471
  let v484 : BitVec 32 := Scalar.addi v287 v483
  let v485 : Index := Scalar.indexCast v484
  let c0_472 : Index := 0#32
  ![v485.toNat, 0]
def k0_dev17 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_43 : BitVec 32 := 4#32
  let v60 : BitVec 32 := Scalar.xori v2 c4_i32_43
  let c1_i32_481 : BitVec 32 := 1#32
  let v495 : BitVec 32 := Scalar.muli v60 c1_i32_481
  let v496 : BitVec 32 := Scalar.addi c0_i32_482 v495
  v496.toNat
def k0_off30 (d0 : Dev nD) : Fin 2 → Nat :=
  let c704_i32_295 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v61 : BitVec 32 := Scalar.divsi v2 c4_i32_44
  let c80_i32_294 : BitVec 32 := 80#32
  let v322 : BitVec 32 := Scalar.muli v61 c80_i32_294
  let v323 : BitVec 32 := Scalar.addi c704_i32_295 v322
  let c4_i32_46 : BitVec 32 := 4#32
  let v63 : BitVec 32 := Scalar.remsi v2 c4_i32_46
  let c2_i32_50 : BitVec 32 := 2#32
  let v68 : BitVec 32 := Scalar.divsi v63 c2_i32_50
  let v69 : BitVec 32 := Scalar.xori v63 v68
  let c1_i32_51 : BitVec 32 := 1#32
  let v70 : BitVec 32 := Scalar.andi v69 c1_i32_51
  let c40_i32_503 : BitVec 32 := 40#32
  let v513 : BitVec 32 := Scalar.muli v70 c40_i32_503
  let v514 : BitVec 32 := Scalar.addi v323 v513
  let v515 : Index := Scalar.indexCast v514
  let c0_504 : Index := 0#32
  ![v515.toNat, 0]
def k0_dev18 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_53 : BitVec 32 := 4#32
  let v72 : BitVec 32 := Scalar.divsi v2 c4_i32_53
  let c4_i32_54 : BitVec 32 := 4#32
  let v73 : BitVec 32 := Scalar.muli v72 c4_i32_54
  let c3_i32_55 : BitVec 32 := 3#32
  let c4_i32_52 : BitVec 32 := 4#32
  let v71 : BitVec 32 := Scalar.remsi v2 c4_i32_52
  let v74 : BitVec 32 := Scalar.subi c3_i32_55 v71
  let v75 : BitVec 32 := Scalar.addi v73 v74
  let c1_i32_513 : BitVec 32 := 1#32
  let v525 : BitVec 32 := Scalar.muli v75 c1_i32_513
  let v526 : BitVec 32 := Scalar.addi c0_i32_514 v525
  v526.toNat
def k0_off31 (d0 : Dev nD) : Fin 2 → Nat :=
  let c864_i32_334 : BitVec 32 := 864#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v76 : BitVec 32 := Scalar.divsi v2 c4_i32_56
  let c80_i32_333 : BitVec 32 := 80#32
  let v358 : BitVec 32 := Scalar.muli v76 c80_i32_333
  let v359 : BitVec 32 := Scalar.addi c864_i32_334 v358
  let c4_i32_58 : BitVec 32 := 4#32
  let v78 : BitVec 32 := Scalar.remsi v2 c4_i32_58
  let c2_i32_62 : BitVec 32 := 2#32
  let v83 : BitVec 32 := Scalar.divsi v78 c2_i32_62
  let c40_i32_535 : BitVec 32 := 40#32
  let v543 : BitVec 32 := Scalar.muli v83 c40_i32_535
  let v544 : BitVec 32 := Scalar.addi v359 v543
  let v545 : Index := Scalar.indexCast v544
  let c0_536 : Index := 0#32
  ![v545.toNat, 0]
def k0_dev19 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v85 : BitVec 32 := Scalar.divsi v2 c4_i32_64
  let c4_i32_65 : BitVec 32 := 4#32
  let v86 : BitVec 32 := Scalar.muli v85 c4_i32_65
  let c4_i32_63 : BitVec 32 := 4#32
  let v84 : BitVec 32 := Scalar.remsi v2 c4_i32_63
  let c1_i32_66 : BitVec 32 := 1#32
  let v87 : BitVec 32 := Scalar.xori v84 c1_i32_66
  let v88 : BitVec 32 := Scalar.addi v86 v87
  let c1_i32_545 : BitVec 32 := 1#32
  let v555 : BitVec 32 := Scalar.muli v88 c1_i32_545
  let v556 : BitVec 32 := Scalar.addi c0_i32_546 v555
  v556.toNat
def k0_off32 (d0 : Dev nD) : Fin 2 → Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v8 : BitVec 32 := Scalar.divsi v3 c2_i32
  let v9 : BitVec 32 := Scalar.xori v3 v8
  let c1_i32_3 : BitVec 32 := 1#32
  let v10 : BitVec 32 := Scalar.andi v9 c1_i32_3
  let c96_i32_372 : BitVec 32 := 96#32
  let v394 : BitVec 32 := Scalar.muli v10 c96_i32_372
  let v395 : BitVec 32 := Scalar.addi c0_i32_373 v394
  let c4_i32_4 : BitVec 32 := 4#32
  let v11 : BitVec 32 := Scalar.remsi v2 c4_i32_4
  let c2_i32_7 : BitVec 32 := 2#32
  let v16 : BitVec 32 := Scalar.divsi v11 c2_i32_7
  let c48_i32_567 : BitVec 32 := 48#32
  let v573 : BitVec 32 := Scalar.muli v16 c48_i32_567
  let v574 : BitVec 32 := Scalar.addi v395 v573
  let v575 : Index := Scalar.indexCast v574
  let c0_568 : Index := 0#32
  ![v575.toNat, 0]
def k0_dev20 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_8 : BitVec 32 := 4#32
  let v17 : BitVec 32 := Scalar.xori v2 c4_i32_8
  let c1_i32_576 : BitVec 32 := 1#32
  let v585 : BitVec 32 := Scalar.muli v17 c1_i32_576
  let v586 : BitVec 32 := Scalar.addi c0_i32_577 v585
  v586.toNat
def k0_off33 (d0 : Dev nD) : Fin 2 → Nat :=
  let c352_i32_412 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v33 : BitVec 32 := Scalar.remsi v2 c4_i32_21
  let c2_i32_25 : BitVec 32 := 2#32
  let v38 : BitVec 32 := Scalar.divsi v33 c2_i32_25
  let c96_i32_411 : BitVec 32 := 96#32
  let v430 : BitVec 32 := Scalar.muli v38 c96_i32_411
  let v431 : BitVec 32 := Scalar.addi c352_i32_412 v430
  let c4_i32_26 : BitVec 32 := 4#32
  let v39 : BitVec 32 := Scalar.divsi v2 c4_i32_26
  let c48_i32_597 : BitVec 32 := 48#32
  let v603 : BitVec 32 := Scalar.muli v39 c48_i32_597
  let v604 : BitVec 32 := Scalar.addi v431 v603
  let v605 : Index := Scalar.indexCast v604
  let c0_598 : Index := 0#32
  ![v605.toNat, 0]
def k0_dev21 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v42 : BitVec 32 := Scalar.divsi v2 c4_i32_29
  let c4_i32_30 : BitVec 32 := 4#32
  let v43 : BitVec 32 := Scalar.muli v42 c4_i32_30
  let c4_i32_28 : BitVec 32 := 4#32
  let v41 : BitVec 32 := Scalar.remsi v2 c4_i32_28
  let c1_i32_31 : BitVec 32 := 1#32
  let v44 : BitVec 32 := Scalar.xori v41 c1_i32_31
  let v45 : BitVec 32 := Scalar.addi v43 v44
  let c1_i32_607 : BitVec 32 := 1#32
  let v615 : BitVec 32 := Scalar.muli v45 c1_i32_607
  let v616 : BitVec 32 := Scalar.addi c0_i32_608 v615
  v616.toNat
def k0_dev22 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_16 : BitVec 32 := 4#32
  let v27 : BitVec 32 := Scalar.xori v2 c4_i32_16
  let c1_i32_644 : BitVec 32 := 1#32
  let v660 : BitVec 32 := Scalar.muli v27 c1_i32_644
  let v661 : BitVec 32 := Scalar.addi c0_i32_645 v660
  v661.toNat
def k0_dev23 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_38 : BitVec 32 := 4#32
  let v53 : BitVec 32 := Scalar.divsi v2 c4_i32_38
  let c4_i32_39 : BitVec 32 := 4#32
  let v54 : BitVec 32 := Scalar.muli v53 c4_i32_39
  let c4_i32_37 : BitVec 32 := 4#32
  let v52 : BitVec 32 := Scalar.remsi v2 c4_i32_37
  let c1_i32_40 : BitVec 32 := 1#32
  let v55 : BitVec 32 := Scalar.xori v52 c1_i32_40
  let v56 : BitVec 32 := Scalar.addi v54 v55
  let c1_i32_682 : BitVec 32 := 1#32
  let v705 : BitVec 32 := Scalar.muli v56 c1_i32_682
  let v706 : BitVec 32 := Scalar.addi c0_i32_683 v705
  v706.toNat
def k0_dev24 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_47 : BitVec 32 := 4#32
  let v64 : BitVec 32 := Scalar.divsi v2 c4_i32_47
  let c4_i32_48 : BitVec 32 := 4#32
  let v65 : BitVec 32 := Scalar.muli v64 c4_i32_48
  let c4_i32_46 : BitVec 32 := 4#32
  let v63 : BitVec 32 := Scalar.remsi v2 c4_i32_46
  let c1_i32_49 : BitVec 32 := 1#32
  let v66 : BitVec 32 := Scalar.xori v63 c1_i32_49
  let v67 : BitVec 32 := Scalar.addi v65 v66
  let c1_i32_720 : BitVec 32 := 1#32
  let v750 : BitVec 32 := Scalar.muli v67 c1_i32_720
  let v751 : BitVec 32 := Scalar.addi c0_i32_721 v750
  v751.toNat
def k0_dev25 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_59 : BitVec 32 := 4#32
  let v79 : BitVec 32 := Scalar.divsi v2 c4_i32_59
  let c4_i32_60 : BitVec 32 := 4#32
  let v80 : BitVec 32 := Scalar.muli v79 c4_i32_60
  let c3_i32_61 : BitVec 32 := 3#32
  let c4_i32_58 : BitVec 32 := 4#32
  let v78 : BitVec 32 := Scalar.remsi v2 c4_i32_58
  let v81 : BitVec 32 := Scalar.subi c3_i32_61 v78
  let v82 : BitVec 32 := Scalar.addi v80 v81
  let c1_i32_758 : BitVec 32 := 1#32
  let v795 : BitVec 32 := Scalar.muli v82 c1_i32_758
  let v796 : BitVec 32 := Scalar.addi c0_i32_759 v795
  v796.toNat
def k0_dev26 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v12 : BitVec 32 := Scalar.divsi v2 c4_i32_5
  let c4_i32_6 : BitVec 32 := 4#32
  let v13 : BitVec 32 := Scalar.muli v12 c4_i32_6
  let c3_i32 : BitVec 32 := 3#32
  let c4_i32_4 : BitVec 32 := 4#32
  let v11 : BitVec 32 := Scalar.remsi v2 c4_i32_4
  let v14 : BitVec 32 := Scalar.subi c3_i32 v11
  let v15 : BitVec 32 := Scalar.addi v13 v14
  let c1_i32_796 : BitVec 32 := 1#32
  let v840 : BitVec 32 := Scalar.muli v15 c1_i32_796
  let v841 : BitVec 32 := Scalar.addi c0_i32_797 v840
  v841.toNat
def k0_dev27 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_27 : BitVec 32 := 4#32
  let v40 : BitVec 32 := Scalar.xori v2 c4_i32_27
  let c1_i32_834 : BitVec 32 := 1#32
  let v885 : BitVec 32 := Scalar.muli v40 c1_i32_834
  let v886 : BitVec 32 := Scalar.addi c0_i32_835 v885
  v886.toNat
def k0_off34 (d0 : Dev nD) : Fin 2 → Nat :=
  let c192_i32_217 : BitVec 32 := 192#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v18 : BitVec 32 := Scalar.remsi v2 c4_i32_9
  let c2_i32_13 : BitVec 32 := 2#32
  let v23 : BitVec 32 := Scalar.divsi v18 c2_i32_13
  let v24 : BitVec 32 := Scalar.xori v18 v23
  let c1_i32_14 : BitVec 32 := 1#32
  let v25 : BitVec 32 := Scalar.andi v24 c1_i32_14
  let c80_i32_216 : BitVec 32 := 80#32
  let v250 : BitVec 32 := Scalar.muli v25 c80_i32_216
  let v251 : BitVec 32 := Scalar.addi c192_i32_217 v250
  let c4_i32_15 : BitVec 32 := 4#32
  let v26 : BitVec 32 := Scalar.divsi v2 c4_i32_15
  let c40_i32_445 : BitVec 32 := 40#32
  let v463 : BitVec 32 := Scalar.muli v26 c40_i32_445
  let v464 : BitVec 32 := Scalar.addi v251 v463
  let c40_i32_853 : BitVec 32 := 40#32
  let v903 : BitVec 32 := Scalar.muli v26 c40_i32_853
  let v904 : BitVec 32 := Scalar.subi v464 v903
  let c0_i32_860 : BitVec 32 := 0#32
  ![v904.toNat, 0]
def k0_dev28 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v19 : BitVec 32 := Scalar.divsi v2 c4_i32_10
  let c4_i32_11 : BitVec 32 := 4#32
  let v20 : BitVec 32 := Scalar.muli v19 c4_i32_11
  let c4_i32_9 : BitVec 32 := 4#32
  let v18 : BitVec 32 := Scalar.remsi v2 c4_i32_9
  let c1_i32_12 : BitVec 32 := 1#32
  let v21 : BitVec 32 := Scalar.xori v18 c1_i32_12
  let v22 : BitVec 32 := Scalar.addi v20 v21
  let c1_i32_858 : BitVec 32 := 1#32
  let v905 : BitVec 32 := Scalar.muli v22 c1_i32_858
  let v906 : BitVec 32 := Scalar.addi c0_i32_859 v905
  v906.toNat
def k0_off35 (d0 : Dev nD) : Fin 2 → Nat :=
  let c544_i32_256 : BitVec 32 := 544#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_32 : BitVec 32 := 4#32
  let v46 : BitVec 32 := Scalar.remsi v2 c4_i32_32
  let c2_i32_36 : BitVec 32 := 2#32
  let v51 : BitVec 32 := Scalar.divsi v46 c2_i32_36
  let c80_i32_255 : BitVec 32 := 80#32
  let v286 : BitVec 32 := Scalar.muli v51 c80_i32_255
  let v287 : BitVec 32 := Scalar.addi c544_i32_256 v286
  let c4_i32_37 : BitVec 32 := 4#32
  let v52 : BitVec 32 := Scalar.remsi v2 c4_i32_37
  let c2_i32_41 : BitVec 32 := 2#32
  let v57 : BitVec 32 := Scalar.divsi v52 c2_i32_41
  let v58 : BitVec 32 := Scalar.xori v52 v57
  let c1_i32_42 : BitVec 32 := 1#32
  let v59 : BitVec 32 := Scalar.andi v58 c1_i32_42
  let c40_i32_476 : BitVec 32 := 40#32
  let v493 : BitVec 32 := Scalar.muli v59 c40_i32_476
  let v494 : BitVec 32 := Scalar.addi v287 v493
  let c40_i32_877 : BitVec 32 := 40#32
  let v923 : BitVec 32 := Scalar.muli v59 c40_i32_877
  let v924 : BitVec 32 := Scalar.subi v494 v923
  let c0_i32_884 : BitVec 32 := 0#32
  ![v924.toNat, 0]
def k0_dev29 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v47 : BitVec 32 := Scalar.divsi v2 c4_i32_33
  let c4_i32_34 : BitVec 32 := 4#32
  let v48 : BitVec 32 := Scalar.muli v47 c4_i32_34
  let c3_i32_35 : BitVec 32 := 3#32
  let c4_i32_32 : BitVec 32 := 4#32
  let v46 : BitVec 32 := Scalar.remsi v2 c4_i32_32
  let v49 : BitVec 32 := Scalar.subi c3_i32_35 v46
  let v50 : BitVec 32 := Scalar.addi v48 v49
  let c1_i32_882 : BitVec 32 := 1#32
  let v925 : BitVec 32 := Scalar.muli v50 c1_i32_882
  let v926 : BitVec 32 := Scalar.addi c0_i32_883 v925
  v926.toNat
def k0_off36 (d0 : Dev nD) : Fin 2 → Nat :=
  let c704_i32_295 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_44 : BitVec 32 := 4#32
  let v61 : BitVec 32 := Scalar.divsi v2 c4_i32_44
  let c80_i32_294 : BitVec 32 := 80#32
  let v322 : BitVec 32 := Scalar.muli v61 c80_i32_294
  let v323 : BitVec 32 := Scalar.addi c704_i32_295 v322
  let c4_i32_46 : BitVec 32 := 4#32
  let v63 : BitVec 32 := Scalar.remsi v2 c4_i32_46
  let c2_i32_50 : BitVec 32 := 2#32
  let v68 : BitVec 32 := Scalar.divsi v63 c2_i32_50
  let v69 : BitVec 32 := Scalar.xori v63 v68
  let c1_i32_51 : BitVec 32 := 1#32
  let v70 : BitVec 32 := Scalar.andi v69 c1_i32_51
  let c40_i32_508 : BitVec 32 := 40#32
  let v523 : BitVec 32 := Scalar.muli v70 c40_i32_508
  let v524 : BitVec 32 := Scalar.addi v323 v523
  let c40_i32_901 : BitVec 32 := 40#32
  let v943 : BitVec 32 := Scalar.muli v70 c40_i32_901
  let v944 : BitVec 32 := Scalar.subi v524 v943
  let c0_i32_908 : BitVec 32 := 0#32
  ![v944.toNat, 0]
def k0_dev30 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_45 : BitVec 32 := 4#32
  let v62 : BitVec 32 := Scalar.xori v2 c4_i32_45
  let c1_i32_906 : BitVec 32 := 1#32
  let v945 : BitVec 32 := Scalar.muli v62 c1_i32_906
  let v946 : BitVec 32 := Scalar.addi c0_i32_907 v945
  v946.toNat
def k0_off37 (d0 : Dev nD) : Fin 2 → Nat :=
  let c864_i32_334 : BitVec 32 := 864#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_56 : BitVec 32 := 4#32
  let v76 : BitVec 32 := Scalar.divsi v2 c4_i32_56
  let c80_i32_333 : BitVec 32 := 80#32
  let v358 : BitVec 32 := Scalar.muli v76 c80_i32_333
  let v359 : BitVec 32 := Scalar.addi c864_i32_334 v358
  let c4_i32_58 : BitVec 32 := 4#32
  let v78 : BitVec 32 := Scalar.remsi v2 c4_i32_58
  let c2_i32_62 : BitVec 32 := 2#32
  let v83 : BitVec 32 := Scalar.divsi v78 c2_i32_62
  let c40_i32_540 : BitVec 32 := 40#32
  let v553 : BitVec 32 := Scalar.muli v83 c40_i32_540
  let v554 : BitVec 32 := Scalar.addi v359 v553
  let c40_i32_925 : BitVec 32 := 40#32
  let v963 : BitVec 32 := Scalar.muli v83 c40_i32_925
  let v964 : BitVec 32 := Scalar.subi v554 v963
  let c0_i32_932 : BitVec 32 := 0#32
  ![v964.toNat, 0]
def k0_dev31 (d0 : Dev nD) : Nat :=
  let c0_i32_931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v77 : BitVec 32 := Scalar.xori v2 c4_i32_57
  let c1_i32_930 : BitVec 32 := 1#32
  let v965 : BitVec 32 := Scalar.muli v77 c1_i32_930
  let v966 : BitVec 32 := Scalar.addi c0_i32_931 v965
  v966.toNat
def k0_off38 (d0 : Dev nD) : Fin 2 → Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32 : BitVec 32 := 2#32
  let v8 : BitVec 32 := Scalar.divsi v3 c2_i32
  let v9 : BitVec 32 := Scalar.xori v3 v8
  let c1_i32_3 : BitVec 32 := 1#32
  let v10 : BitVec 32 := Scalar.andi v9 c1_i32_3
  let c96_i32_372 : BitVec 32 := 96#32
  let v394 : BitVec 32 := Scalar.muli v10 c96_i32_372
  let v395 : BitVec 32 := Scalar.addi c0_i32_373 v394
  let c4_i32_4 : BitVec 32 := 4#32
  let v11 : BitVec 32 := Scalar.remsi v2 c4_i32_4
  let c2_i32_7 : BitVec 32 := 2#32
  let v16 : BitVec 32 := Scalar.divsi v11 c2_i32_7
  let c48_i32_571 : BitVec 32 := 48#32
  let v583 : BitVec 32 := Scalar.muli v16 c48_i32_571
  let v584 : BitVec 32 := Scalar.addi v395 v583
  let c48_i32_949 : BitVec 32 := 48#32
  let v983 : BitVec 32 := Scalar.muli v16 c48_i32_949
  let v984 : BitVec 32 := Scalar.subi v584 v983
  let c0_i32_956 : BitVec 32 := 0#32
  ![v984.toNat, 0]
def k0_dev32 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.xori v3 c1_i32_2
  let v7 : BitVec 32 := Scalar.addi v5 v6
  let c1_i32_954 : BitVec 32 := 1#32
  let v985 : BitVec 32 := Scalar.muli v7 c1_i32_954
  let v986 : BitVec 32 := Scalar.addi c0_i32_955 v985
  v986.toNat
def k0_off39 (d0 : Dev nD) : Fin 2 → Nat :=
  let c352_i32_412 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_21 : BitVec 32 := 4#32
  let v33 : BitVec 32 := Scalar.remsi v2 c4_i32_21
  let c2_i32_25 : BitVec 32 := 2#32
  let v38 : BitVec 32 := Scalar.divsi v33 c2_i32_25
  let c96_i32_411 : BitVec 32 := 96#32
  let v430 : BitVec 32 := Scalar.muli v38 c96_i32_411
  let v431 : BitVec 32 := Scalar.addi c352_i32_412 v430
  let c4_i32_26 : BitVec 32 := 4#32
  let v39 : BitVec 32 := Scalar.divsi v2 c4_i32_26
  let c48_i32_602 : BitVec 32 := 48#32
  let v613 : BitVec 32 := Scalar.muli v39 c48_i32_602
  let v614 : BitVec 32 := Scalar.addi v431 v613
  let c48_i32_973 : BitVec 32 := 48#32
  let v1003 : BitVec 32 := Scalar.muli v39 c48_i32_973
  let v1004 : BitVec 32 := Scalar.subi v614 v1003
  let c0_i32_980 : BitVec 32 := 0#32
  ![v1004.toNat, 0]
def k0_dev33 (d0 : Dev nD) : Nat :=
  let c0_i32_979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v34 : BitVec 32 := Scalar.divsi v2 c4_i32_22
  let c4_i32_23 : BitVec 32 := 4#32
  let v35 : BitVec 32 := Scalar.muli v34 c4_i32_23
  let c3_i32_24 : BitVec 32 := 3#32
  let c4_i32_21 : BitVec 32 := 4#32
  let v33 : BitVec 32 := Scalar.remsi v2 c4_i32_21
  let v36 : BitVec 32 := Scalar.subi c3_i32_24 v33
  let v37 : BitVec 32 := Scalar.addi v35 v36
  let c1_i32_978 : BitVec 32 := 1#32
  let v1005 : BitVec 32 := Scalar.muli v37 c1_i32_978
  let v1006 : BitVec 32 := Scalar.addi c0_i32_979 v1005
  v1006.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KI.Prog.lean ====
/-
  The kernel as a list of events.

  The rows of every array are cut into six chunks; each chunk goes through the same fifteen steps, with its own order of the
  three mesh axes. This file names the tables of that pattern (sizes, axes, offsets, memrefs, semaphores), writes each step as
  one program over the tables, and states that the printed kernel is the sequence of these steps.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Allreduce

open Cert.KernelIdeal Cert.KernelIdeal.Gen
open Idealize.ShloMosaic Idealize.ShloMosaic.TcCoe Idealize.SL Idealize.SL.Sem

variable {F : FTy → Type} [FloatOps F]

/-! ## Sizes and offsets -/

/-- Half of a chunk's rows. -/
def hs : Fin 6 → ℕ | 0 => 96 | 1 => 80 | 2 => 96 | 3 => 80 | 4 => 80 | 5 => 80
/-- A quarter of a chunk's rows. -/
def qs : Fin 6 → ℕ | 0 => 48 | 1 => 40 | 2 => 48 | 3 => 40 | 4 => 40 | 5 => 40
/-- All of a chunk's rows. -/
def rs : Fin 6 → ℕ | 0 => 192 | 1 => 160 | 2 => 192 | 3 => 160 | 4 => 160 | 5 => 160
/-- A chunk's first row. -/
def base : Fin 6 → ℕ | 0 => 0 | 1 => 192 | 2 => 352 | 3 => 544 | 4 => 704 | 5 => 864
/-- Where a chunk's residual rows lie in the residual scratch. -/
def resOff : Fin 6 → ℕ | 0 => 0 | 1 => 48 | 2 => 88 | 3 => 136 | 4 => 176 | 5 => 216

/-- The rows of the three landing zones of a chunk's receive buffer: a half, a quarter, a quarter. -/
def zoneOff (k : Fin 6) : Fin 3 → ℕ | 0 => 0 | 1 => hs k | 2 => match k with | 0 => 144 | 1 => 120 | 2 => 144 | 3 => 120 | 4 => 120 | 5 => 120
def zoneSize (k : Fin 6) : Fin 3 → ℕ | 0 => hs k | 1 => qs k | 2 => qs k

abbrev SH (k : Fin 6) : Shape := ⟨2, ![hs k, 1024]⟩
abbrev SQ (k : Fin 6) : Shape := ⟨2, ![qs k, 1024]⟩
abbrev SR (k : Fin 6) : Shape := ⟨2, ![rs k, 1024]⟩
abbrev SXH (k : Fin 6) : Shape := ⟨3, ![1, hs k, 1024]⟩

/-- The printed offsets, by chunk: the own quarter (transfers), the own quarter (loads and stores), the half sent first, the kept half of
    the partial, the kept half of the accumulator, the quarter sent second, the kept half of the result. -/
def oQ : Fin 6 → Dev nD → Fin 2 → ℕ | 0 => k0_off1 | 1 => k0_off2 | 2 => k0_off3 | 3 => k0_off4 | 4 => k0_off5 | 5 => k0_off6
def oQl : Fin 6 → Dev nD → Fin 2 → ℕ | 0 => k0_off32 | 1 => k0_off28 | 2 => k0_off33 | 3 => k0_off29 | 4 => k0_off30 | 5 => k0_off31
def oXs : Fin 6 → Dev nD → Fin 3 → ℕ
  | 0 => k0_off10 | 1 => k0_off7 | 2 => k0_off11 | 3 => k0_off8 | 4 => fun d => k0_off9 d 704#32 | 5 => fun d => k0_off9 d 864#32
def oXk : Fin 6 → Dev nD → Fin 3 → ℕ
  | 0 => k0_off22 | 1 => k0_off12 | 2 => k0_off25 | 3 => k0_off15 | 4 => fun d => k0_off18 d 704#32 | 5 => fun d => k0_off18 d 864#32
def oA : Fin 6 → Dev nD → Fin 2 → ℕ
  | 0 => k0_off23 | 1 => k0_off13 | 2 => k0_off26 | 3 => k0_off16 | 4 => fun d => k0_off19 d 704#32 | 5 => fun d => k0_off19 d 864#32
def oS : Fin 6 → Dev nD → Fin 2 → ℕ | 0 => k0_off24 | 1 => k0_off14 | 2 => k0_off27 | 3 => k0_off17 | 4 => k0_off20 | 5 => k0_off21
def oK : Fin 6 → Dev nD → Fin 2 → ℕ | 0 => k0_off38 | 1 => k0_off34 | 2 => k0_off39 | 3 => k0_off35 | 4 => k0_off36 | 5 => k0_off37

theorem oQ_inb : ∀ (k : Fin 6) (d : Dev nD) (a : Fin 2), oQ k d a + (SQ k).size a ≤ S1024x1024.size a := by decide +kernel
theorem oQl_inb : ∀ (k : Fin 6) (d : Dev nD) (a : Fin 2), oQl k d a + (SQ k).size a ≤ S1024x1024.size a := by decide +kernel
theorem oXs_inb : ∀ (k : Fin 6) (d : Dev nD) (a : Fin 3), oXs k d a + (SXH k).size a ≤ S1x1024x1024.size a := by decide +kernel
theorem oXk_inb : ∀ (k : Fin 6) (d : Dev nD) (a : Fin 3), oXk k d a + (SXH k).size a ≤ S1x1024x1024.size a := by decide +kernel
theorem oA_inb : ∀ (k : Fin 6) (d : Dev nD) (a : Fin 2), oA k d a + (SH k).size a ≤ S1024x1024.size a := by decide +kernel
theorem oS_inb : ∀ (k : Fin 6) (d : Dev nD) (a : Fin 2), oS k d a + (SQ k).size a ≤ S1024x1024.size a := by decide +kernel
theorem oK_inb : ∀ (k : Fin 6) (d : Dev nD) (a : Fin 2), oK k d a + (SH k).size a ≤ S1024x1024.size a := by decide +kernel

/-! ## The devices named -/

/-- The device a transfer addresses, by phase and chunk. -/
def devV : Fin 5 → Fin 6 → Dev nD → ℕ
  | 0 => fun | 1 => k0_dev4 | 3 => k0_dev5 | 4 => k0_dev6 | 5 => k0_dev7 | 0 => k0_dev8 | 2 => k0_dev9
  | 1 => fun | 1 => k0_dev10 | 3 => k0_dev11 | 4 => k0_dev12 | 5 => k0_dev13 | 0 => k0_dev14 | 2 => k0_dev15
  | 2 => fun | 1 => k0_dev16 | 3 => k0_dev17 | 4 => k0_dev18 | 5 => k0_dev19 | 0 => k0_dev20 | 2 => k0_dev21
  | 3 => fun | 1 => k0_dev22 | 3 => k0_dev23 | 4 => k0_dev24 | 5 => k0_dev25 | 0 => k0_dev26 | 2 => k0_dev27
  | 4 => fun | 1 => k0_dev28 | 3 => k0_dev29 | 4 => k0_dev30 | 5 => k0_dev31 | 0 => k0_dev32 | 2 => k0_dev33
theorem devV_lt : ∀ (ph : Fin 5) (k : Fin 6) (d : Dev nD), devV ph k d < nD := by decide +kernel
def sdev (ph : Fin 5) (k : Fin 6) (d : Dev nD) : Dev nD := ⟨devV ph k d, devV_lt ph k d⟩

/-- The device a barrier signal addresses, by axis. -/
def devB : Fin 3 → Dev nD → ℕ | 0 => k0_dev1 | 1 => k0_dev2 | 2 => k0_dev3
theorem devB_lt : ∀ (a : Fin 3) (d : Dev nD), devB a d < nD := by decide +kernel
def bdev (a : Fin 3) (d : Dev nD) : Dev nD := ⟨devB a d, devB_lt a d⟩

/-! ## The memrefs -/

abbrev xM : Memref sig .tc .vmem S1x1024x1024 .f32 := Memref.whole cc0_stg0_0
abbrev rM : Memref sig .tc .hbm S1024x1024 .f32 := Memref.whole main_arg1
abbrev gM : Memref sig .tc .vmem S1024 .f32 := Memref.whole cc0_stg1_0
abbrev oM : Memref sig .tc .vmem S1024x1024 .f32 := Memref.whole cc0_stg2_0
abbrev aM : Memref sig .tc .vmem S1024x1024 .f32 := Memref.whole cc0_scratch0
abbrev lM : Memref sig .tc .vmem S256x1024 .f32 := Memref.whole cc0_scratch7
/-- The receive buffer of a chunk. -/
def bM : (k : Fin 6) → Memref sig .tc .vmem (SR k) .f32
  | 0 => Memref.whole cc0_scratch1 | 1 => Memref.whole cc0_scratch2 | 2 => Memref.whole cc0_scratch3
  | 3 => Memref.whole cc0_scratch4 | 4 => Memref.whole cc0_scratch5 | 5 => Memref.whole cc0_scratch6

theorem bM_tc (k : Fin 6) : (bM k).view.ref.isScScratch = false := by fin_cases k <;> rfl

abbrev rQ (k : Fin 6) (d : Dev nD) : Rect S1024x1024 := Rect.unit (s := S1024x1024) (oQ k d) (SQ k).size (oQ_inb k d)
abbrev rQl (k : Fin 6) (d : Dev nD) : Rect S1024x1024 := Rect.unit (s := S1024x1024) (oQl k d) (SQ k).size (oQl_inb k d)
abbrev rS (k : Fin 6) (d : Dev nD) : Rect S1024x1024 := Rect.unit (s := S1024x1024) (oS k d) (SQ k).size (oS_inb k d)
abbrev rA (k : Fin 6) (d : Dev nD) : Rect S1024x1024 := Rect.unit (s := S1024x1024) (oA k d) (SH k).size (oA_inb k d)
abbrev rK (k : Fin 6) (d : Dev nD) : Rect S1024x1024 := Rect.unit (s := S1024x1024) (oK k d) (SH k).size (oK_inb k d)
abbrev rXs (k : Fin 6) (d : Dev nD) : Rect S1x1024x1024 := Rect.unit (s := S1x1024x1024) (oXs k d) (SXH k).size (oXs_inb k d)
abbrev rXk (k : Fin 6) (d : Dev nD) : Rect S1x1024x1024 := Rect.unit (s := S1x1024x1024) (oXk k d) (SXH k).size (oXk_inb k d)

theorem zone_inb : ∀ (k : Fin 6) (j : Fin 3) (a : Fin 2), (![zoneOff k j, 0] : Fin 2 → ℕ) a + (⟨2, ![zoneSize k j, 1024]⟩ : Shape).size a ≤ (SR k).size a := by
  decide +kernel
theorem slot_inb : ∀ (k : Fin 6) (a : Fin 2), (![resOff k, 0] : Fin 2 → ℕ) a + (SQ k).size a ≤ S256x1024.size a := by decide +kernel
abbrev rZ (k : Fin 6) (j : Fin 3) : Rect (SR k) := Rect.unit (s := SR k) ![zoneOff k j, 0] ![zoneSize k j, 1024] (zone_inb k j)
abbrev rL (k : Fin 6) : Rect S256x1024 := Rect.unit (s := S256x1024) ![resOff k, 0] (SQ k).size (slot_inb k)

theorem sqz : ∀ k : Fin 6, (SXH k).Squeezes (SH k) := by decide +kernel

/-- The half of the partial sent first. -/
abbrev xsM (k : Fin 6) (d : Dev nD) : Memref sig .tc .vmem (SH k) .f32 := (xM.slice (rXs k d) (fun _ => rfl)).squeeze (SH k) (sqz k)
/-- A landing zone. -/
abbrev zM (k : Fin 6) (j : Fin 3) : Memref sig .tc .vmem ⟨2, ![zoneSize k j, 1024]⟩ .f32 := (bM k).slice (rZ k j) (fun _ => rfl)
abbrev sM (k : Fin 6) (d : Dev nD) : Memref sig .tc .vmem (SQ k) .f32 := aM.slice (rS k d) (fun _ => rfl)
abbrev qM (k : Fin 6) (d : Dev nD) : Memref sig .tc .vmem (SQ k) .f32 := aM.slice (rQ k d) (fun _ => rfl)
abbrev oqM (k : Fin 6) (d : Dev nD) : Memref sig .tc .vmem (SQ k) .f32 := oM.slice (rQ k d) (fun _ => rfl)
abbrev okM (k : Fin 6) (d : Dev nD) : Memref sig .tc .vmem (SH k) .f32 := oM.slice (rK k d) (fun _ => rfl)
abbrev rqM (k : Fin 6) (d : Dev nD) : Memref sig .tc .hbm (SQ k) .f32 := rM.slice (rQ k d) (fun _ => rfl)
abbrev lqM (k : Fin 6) : Memref sig .tc .vmem (SQ k) .f32 := lM.slice (rL k) (fun _ => rfl)

/-! ## The semaphores -/

theorem sem_inb : ∀ (k : Fin 6) (ph : Fin 5) (a : Fin 2), (![k.val, ph.val] : Fin 2 → ℕ) a + S1x1.size a ≤ S6x5.size a := by decide +kernel
theorem rsem_inb : ∀ (k : Fin 6) (a : Fin 1), (![k.val] : Fin 1 → ℕ) a + S1.size a ≤ S6.size a := by decide +kernel
/-- The send, receive and residual semaphores. -/
abbrev sndS (k : Fin 6) (ph : Fin 5) : DmaSem sig :=
  ((cc0_scratch8.slice (Rect.unit (s := S6x5) ![k.val, ph.val] S1x1.size (sem_inb k ph))).squeeze S_ squeezes_S1x1_S_).sem
abbrev rcvS (k : Fin 6) (ph : Fin 5) : DmaSem sig :=
  ((cc0_scratch9.slice (Rect.unit (s := S6x5) ![k.val, ph.val] S1x1.size (sem_inb k ph))).squeeze S_ squeezes_S1x1_S_).sem
abbrev resS (k : Fin 6) : DmaSem sig :=
  ((cc0_scratch10.slice (Rect.unit (s := S6) ![k.val] S1.size (rsem_inb k))).squeeze S_ squeezes_S1_S_).sem
abbrev barS : Sem sig := (SemArray.scalar (sig.barrier 0 rfl) : Sems sig S_).sem

/-! ## The values stored -/

theorem sc0 : ∀ k : Fin 6, (SXH k).ShapeCasts (SH k) := by decide +kernel
theorem scH : ∀ k : Fin 6, (SH k).ShapeCasts (SH k) := by decide +kernel
theorem scQ : ∀ k : Fin 6, (SQ k).ShapeCasts (SQ k) := by decide +kernel
theorem sc1 : ∀ k : Fin 6, (⟨1, ![qs k]⟩ : Shape).ShapeCasts ⟨2, ![qs k, 1]⟩ := by decide +kernel
theorem redQ : ∀ k : Fin 6, (SQ k).Reduces [1] ⟨1, ![qs k]⟩ := by decide +kernel
theorem bc1 : ∀ k : Fin 6, (⟨2, ![qs k, 1]⟩ : Shape).Broadcasts (SQ k) := by decide +kernel
theorem bc2 : ∀ k : Fin 6, S1x1024.Broadcasts (SQ k) := by decide +kernel

/-- The kept half of the partial plus the half received. -/
def pay0 (k : Fin 6) (v : Vec F (SXH k) .f32) (w : Vec F (SH k) .f32) : FVec F (SH k) .f32 :=
  shapeCast (SH k) (addf (shapeCast (SH k) v (sc0 k)) w) (scH k)
/-- The own quarter plus the quarter received. -/
def pay1 (k : Fin 6) (v w : Vec F (SQ k) .f32) : FVec F (SQ k) .f32 := shapeCast (SQ k) (addf v w) (scQ k)
/-- The own quarter plus the quarter received plus the residual. -/
def paySum (k : Fin 6) (v w r : Vec F (SQ k) .f32) : FVec F (SQ k) .f32 := addf (addf v w) r
/-- The rows normalised and scaled. -/
def pay2 (k : Fin 6) (v w r : Vec F (SQ k) .f32) (g : Vec F S1024 .f32) : FVec F (SQ k) .f32 :=
  mulf (divf (paySum k v w r)
      (broadcastTo (SQ k) (sqrt (addf (divf (shapeCast ⟨2, ![qs k, 1]⟩
          (multiReduction .add [1] ⟨1, ![qs k]⟩ (mulf (paySum k v w r) (paySum k v w r)) 0x00000000#32 (redQ k) (.inl rfl) rfl) (sc1 k))
          (broadcast ⟨2, ![qs k, 1]⟩ (Scalar.ofBits .f32 0x44800000#32))) (broadcast ⟨2, ![qs k, 1]⟩ (Scalar.ofBits .f32 0x358637BD#32)))) (bc1 k)))
    (broadcastTo (SQ k) (shapeCast S1x1024 (shapeCast S1024 g shapeCasts_S1024_S1024) shapeCasts_S1024_S1x1024) (bc2 k))

/-! ## The events -/

theorem pH : ∀ k : Fin 6, 0 < (SH k).numel := by decide +kernel
theorem pXH : ∀ k : Fin 6, 0 < (SXH k).numel := by decide +kernel
theorem pQ : ∀ k : Fin 6, 0 < (SQ k).numel := by decide +kernel

abbrev PG (F : FTy → Type) (α : Type) := Prog (TpuEff nD τ sig (Elt F) Λ₀ .tc) α

/-- A send of phase `ph`, chunk `k`: source, destination. -/
def sendOp {s : Shape} (src dst : Memref sig .tc .vmem s .f32) (ph : Fin 5) (k : Fin 6) (d : Dev nD) (hd : dst.view.ref.isScScratch = false)
    (hs' : src.view.WordExact) : PG F PUnit :=
  Prog.lift (.enqueueDma src (.remote (Dev.tc (sdev ph k d)) dst (.dma (sndS k ph)) hd) (.dma (rcvS k ph)) hs' (View.wordExact_bits rfl) ⟨⟨rfl, Or.inl rfl⟩, trivial⟩)

/-- The two waits of a transfer: for the source's release, for the arrival. -/
def waitOp {s : Shape} (src dst : Memref sig .tc .vmem s .f32) (ph : Fin 5) (k : Fin 6) (hs' : src.view.WordExact) : PG F PUnit :=
  (Prog.lift (.waitDma2 (sndS k ph) dst src (View.wordExact_bits rfl) hs')).bind fun _ =>
  Prog.lift (.waitDma2 (rcvS k ph) src dst hs' (View.wordExact_bits rfl))

inductive Ev where
  | res (k : Fin 6) | send (ph : Fin 5) (k : Fin 6) | wait (ph : Fin 5) (k : Fin 6) | comp0 (k : Fin 6) | comp1 (k : Fin 6) | resWait (k : Fin 6) | comp2 (k : Fin 6)

theorem xsM_ex (k : Fin 6) (d : Dev nD) : (xsM k d).view.WordExact := (View.wordExact_bits rfl).reshape _ _

def sendP : Fin 5 → (k : Fin 6) → Dev nD → PG F PUnit
  | 0 => fun k d => sendOp (xsM k d) (zM k 0) 0 k d (bM_tc k) (xsM_ex k d)
  | 1 => fun k d => sendOp (sM k d) (zM k 1) 1 k d (bM_tc k) (View.wordExact_bits rfl)
  | 2 => fun k d => sendOp (qM k d) (zM k 2) 2 k d (bM_tc k) (View.wordExact_bits rfl)
  | 3 => fun k d => sendOp (oqM k d) (oqM k d) 3 k d rfl (View.wordExact_bits rfl)
  | 4 => fun k d => sendOp (okM k d) (okM k d) 4 k d rfl (View.wordExact_bits rfl)
def waitP : Fin 5 → (k : Fin 6) → Dev nD → PG F PUnit
  | 0 => fun k d => waitOp (xsM k d) (zM k 0) 0 k (xsM_ex k d)
  | 1 => fun k d => waitOp (sM k d) (zM k 1) 1 k (View.wordExact_bits rfl)
  | 2 => fun k d => waitOp (qM k d) (zM k 2) 2 k (View.wordExact_bits rfl)
  | 3 => fun k d => waitOp (oqM k d) (oqM k d) 3 k (View.wordExact_bits rfl)
  | 4 => fun k d => waitOp (okM k d) (okM k d) 4 k (View.wordExact_bits rfl)

def resP (k : Fin 6) (d : Dev nD) : PG F PUnit :=
  Prog.lift (.enqueueDma (rqM k d) (.here (lqM k)) (.dma (resS k)) (View.wordExact_bits rfl) (View.wordExact_bits rfl) ⟨Or.inl rfl, trivial⟩)
def resWaitP (k : Fin 6) (d : Dev nD) : PG F PUnit :=
  Prog.lift (.waitDma2 (resS k) (rqM k d) (lqM k) (View.wordExact_bits rfl) (View.wordExact_bits rfl))

def comp0P (k : Fin 6) (d : Dev nD) : PG F PUnit :=
  (Prog.lift (.load xM (rXk k d).toLoadRect (View.loadsAt_vmem (pXH k)))).bind fun v =>
  (Prog.lift (.load (bM k) (rZ k 0).toLoadRect (View.loadsAt_vmem (pH k)))).bind fun w =>
  (Prog.lift (.load aM (rA k d).toLoadRect (View.loadsAt_vmem (pH k)))).bind fun _ =>
  Prog.lift (.store aM (rA k d) (pay0 k v w) Finset.univ (View.stores_vmem_bits_univ (pH k) rfl) (.inl rfl))
def comp1P (k : Fin 6) (d : Dev nD) : PG F PUnit :=
  (Prog.lift (.load aM (rQl k d).toLoadRect (View.loadsAt_vmem (pQ k)))).bind fun v =>
  (Prog.lift (.load (bM k) (rZ k 1).toLoadRect (View.loadsAt_vmem (pQ k)))).bind fun w =>
  (Prog.lift (.load aM (rQl k d).toLoadRect (View.loadsAt_vmem (pQ k)))).bind fun _ =>
  Prog.lift (.store aM (rQl k d) (pay1 k v w) Finset.univ (View.stores_vmem_bits_univ (pQ k) rfl) (.inl rfl))
def comp2P (k : Fin 6) (d : Dev nD) : PG F PUnit :=
  (Prog.lift (.load aM (rQl k d).toLoadRect (View.loadsAt_vmem (pQ k)))).bind fun v =>
  (Prog.lift (.load (bM k) (rZ k 2).toLoadRect (View.loadsAt_vmem (pQ k)))).bind fun w =>
  (Prog.lift (.load lM (rL k).toLoadRect (View.loadsAt_vmem (pQ k)))).bind fun r =>
  (Prog.lift (.load gM (Rect.unit (s := S1024) ![0] S1024.size inb_S1024_S1024_0).toLoadRect (View.loadsAt_vmem h_S1024))).bind fun g =>
  (Prog.lift (.load oM (rQl k d).toLoadRect (View.loadsAt_vmem (pQ k)))).bind fun _ =>
  Prog.lift (.store oM (rQl k d) (pay2 k v w r g) Finset.univ (View.stores_vmem_bits_univ (pQ k) rfl) (.inl rfl))

def evP (d : Dev nD) : Ev → PG F PUnit
  | .res k => resP k d
  | .send ph k => sendP ph k d
  | .wait ph k => waitP ph k d
  | .comp0 k => comp0P k d
  | .comp1 k => comp1P k d
  | .resWait k => resWaitP k d
  | .comp2 k => comp2P k d

def seqP (d : Dev nD) : List Ev → PG F PUnit
  | [] => .ret ⟨⟩
  | e :: es => (evP d e).bind fun _ => seqP d es

/-- The order in which the chunks take each phase. -/
def order : List (Fin 6) := [1, 3, 4, 5, 0, 2]

/-- The kernel's events after the barrier. -/
def events : List Ev :=
  ([0, 1, 2, 3, 4, 5] : List (Fin 6)).map .res ++ order.map (.send 0)
    ++ order.flatMap (fun k => [.wait 0 k, .comp0 k, .send 1 k])
    ++ order.flatMap (fun k => [.wait 1 k, .comp1 k, .send 2 k])
    ++ order.flatMap (fun k => [.wait 2 k, .resWait k, .comp2 k, .send 3 k])
    ++ order.flatMap (fun k => [.wait 3 k, .send 4 k])
    ++ order.map (.wait 4)

/-- The kernel: the device's number, three barrier signals, the barrier wait, the events. -/
def kernelP : PG F PUnit :=
  (Prog.lift .deviceId).bind fun d : Dev nD =>
  (semSignalWord (bdev 0 d) barS 1#32).bind fun _ =>
  (semSignalWord (bdev 1 d) barS 1#32).bind fun _ =>
  (semSignalWord (bdev 2 d) barS 1#32).bind fun _ =>
  (semWaitWord barS 3#32).bind fun _ => seqP d events

set_option maxRecDepth 65536 in
/-- The printed kernel body, on its buffers, is the sequence of events. -/
theorem body_eq :
    cc0_body (F := F) xM (Memref.isWhole_whole _) rM (Memref.isWhole_whole _) gM (Memref.isWhole_whole _) oM (Memref.isWhole_whole _) aM (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _)
      lM (Memref.isWhole_whole _) cc0_scratch8 cc0_scratch9 cc0_scratch10 = kernelP := by
  rfl

end Cert.KernelIdeal.Allreduce

end
-- ==== Proof.KI.Mesh.lean ====
/-
  The mesh: eight devices as three bits, one per axis. A device's peer along an axis differs from it in that bit alone. The
  kernel's row offsets and target devices in these terms.
-/
module

public import proofs.«01_k».proof.Proof.KI.Prog

@[expose] public section

noncomputable section

namespace Cert.KernelIdeal.Allreduce

open Cert.KernelIdeal Cert.KernelIdeal.Gen
open Idealize.ShloMosaic Idealize.ShloMosaic.TcCoe

/-- A device's bit along an axis. -/
def bit : Fin 3 → Fin 8 → ℕ := ![![0, 1, 1, 0, 0, 1, 1, 0], ![0, 0, 1, 1, 0, 0, 1, 1], ![0, 0, 0, 0, 1, 1, 1, 1]]
/-- A device's peer along an axis. -/
def peer : Fin 3 → Dev nD → Dev nD := ![![1, 0, 3, 2, 5, 4, 7, 6], ![3, 2, 1, 0, 7, 6, 5, 4], ![4, 5, 6, 7, 0, 1, 2, 3]]
/-- The order in which a chunk takes the axes, and its inverse. -/
def ax : Fin 6 → Fin 3 → Fin 3 := ![![0, 1, 2], ![0, 2, 1], ![1, 2, 0], ![1, 0, 2], ![2, 0, 1], ![2, 1, 0]]
def axInv : Fin 6 → Fin 3 → Fin 3 := ![![0, 1, 2], ![0, 2, 1], ![2, 0, 1], ![1, 0, 2], ![1, 2, 0], ![2, 1, 0]]
theorem ax_left : ∀ k j, axInv k (ax k j) = j := by decide
theorem ax_right : ∀ k a, ax k (axInv k a) = a := by decide
def axE (k : Fin 6) : Fin 3 ≃ Fin 3 := ⟨ax k, axInv k, ax_left k, ax_right k⟩

/-- A device's partner in a chunk's stage. -/
def sg (k : Fin 6) (j : Fin 3) (c : Dev nD) : Dev nD := peer (ax k j) c
theorem peer_peer : ∀ a c, peer a (peer a c) = c := by decide
theorem sg_sg (k : Fin 6) (j : Fin 3) (c : Dev nD) : sg k j (sg k j c) = c := peer_peer _ c
def peerE (a : Fin 3) : Dev nD ≃ Dev nD := ⟨peer a, peer a, peer_peer a, peer_peer a⟩

/-- The first row of the half a device keeps, and of the quarter it owns. -/
def H (k : Fin 6) (c : Dev nD) : ℕ := base k + hs k * bit (ax k 0) c
def Q (k : Fin 6) (c : Dev nD) : ℕ := H k c + qs k * bit (ax k 1) c

theorem oQ_eq : ∀ k d, oQ k d = ![Q k d, 0] := by decide +kernel
theorem oQl_eq : ∀ k d, oQl k d = ![Q k d, 0] := by decide +kernel
theorem oS_eq : ∀ k d, oS k d = ![Q k (sg k 1 d), 0] := by decide +kernel
theorem oA_eq : ∀ k d, oA k d = ![H k d, 0] := by decide +kernel
theorem oK_eq : ∀ k d, oK k d = ![H k d, 0] := by decide +kernel
theorem oXs_eq : ∀ k d, oXs k d = ![0, H k (sg k 0 d), 0] := by decide +kernel
theorem oXk_eq : ∀ k d, oXk k d = ![0, H k d, 0] := by decide +kernel

/-- The axis position of a phase. -/
def jp : Fin 5 → Fin 3 := ![0, 1, 2, 1, 0]
theorem sdev_eq : ∀ ph k d, sdev ph k d = sg k (jp ph) d := by decide +kernel
theorem bdev_eq : ∀ a d, bdev a d = peer a d := by decide +kernel

/-- The partner in stage 1 keeps the same half; the partner in stage 2 owns the same quarter. -/
theorem H_sg1 : ∀ k d, H k (sg k 1 d) = H k d := by decide +kernel
theorem Q_sg2 : ∀ k d, Q k (sg k 2 d) = Q k d := by decide +kernel
/-- The two quarters of a half, the two halves of a chunk. -/
theorem Q_cases : ∀ k d, (Q k d = H k d ∧ Q k (sg k 1 d) = H k d + qs k) ∨ (Q k d = H k d + qs k ∧ Q k (sg k 1 d) = H k d) := by decide +kernel
theorem H_cases : ∀ k d, (H k d = base k ∧ H k (sg k 0 d) = base k + hs k) ∨ (H k d = base k + hs k ∧ H k (sg k 0 d) = base k) := by decide +kernel
theorem hs_eq : ∀ k, hs k = qs k + qs k := by decide
theorem rs_eq : ∀ k, rs k = hs k + (qs k + qs k) := by decide
theorem zone2_eq : ∀ k, zoneOff k 2 = hs k + qs k := by decide

end Cert.KernelIdeal.Allreduce

end
-- ==== Proof.KI.Region.lean ====
/-
  Bands of rows. Every transfer, load and store of the kernel touches a band of rows of a buffer of 1024 columns; this file
  states what holding a band means, and how bands are split, joined, read and written.
-/
module

public import proofs.«01_k».proof.Proof.KI.Mesh
public import Idealize.ShloMosaic.Lib.Pipeline.Launch
public import Idealize.ShloMosaic.Lib.Pipeline.Kit
public import Idealize.ShloMosaic.Lib.Tactic

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the kernel's own rounds, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Bands -/

/-- Contents by row and column. -/
abbrev Rows (F : FTy → Type) : Type := ℕ → Fin 1024 → Elt F .f32

variable {sp : Space} {n : ℕ}

/-- The elements of rows `r … r + h - 1`. -/
def rowSet (m : Memref sig .tc sp ⟨2, ![n, 1024]⟩ .f32) (r h : ℕ) : Finset m.view.ty.Idx :=
  (Finset.univ.filter fun i : (⟨2, ![n, 1024]⟩ : Shape).Idx => r ≤ (i 0).val ∧ (i 0).val < r + h).map m.view.emb

/-- The band's rows as an array of its own. -/
def slab (r h : ℕ) (X : Rows F) : (⟨2, ![h, 1024]⟩ : Shape).Idx → Elt F .f32 := fun j => X (r + (j 0).val) (j 1)

/-- Device `c` holds rows `r … r + h - 1` of a buffer, at contents `X`; -/
def rp (c : Dev nD) (m : Memref sig .tc sp ⟨2, ![n, 1024]⟩ .f32) (r h : ℕ) (X : Rows F) : sProp 𝕄 :=
  iprop(∃ f : Buf (Elt F) (m.view.loc (c : Thread nD τ)),
    ⌜∀ i : (⟨2, ![n, 1024]⟩ : Shape).Idx, r ≤ (i 0).val → (i 0).val < r + h → m.view.read (Elt F) f i = X (i 0).val (i 1)⌝
      ∗ (m.view.loc (c : Thread nD τ) ↦[rowSet m r h]{fullShare} f))
/-- at some contents. -/
def ra (c : Dev nD) (m : Memref sig .tc sp ⟨2, ![n, 1024]⟩ .f32) (r h : ℕ) : sProp 𝕄 :=
  iprop(∃ f : Buf (Elt F) (m.view.loc (c : Thread nD τ)), (m.view.loc (c : Thread nD τ) ↦[rowSet m r h]{fullShare} f))

omit [FloatOps F] in
instance rp_storable (c : Dev nD) (m : Memref sig .tc sp ⟨2, ![n, 1024]⟩ .f32) (r h : ℕ) (X : Rows F) :
    BI.Storable (upEmb : UEmb _ 𝕄) (rp c m r h X) := by unfold rp; infer_instance
omit [FloatOps F] in
instance ra_storable (c : Dev nD) (m : Memref sig .tc sp ⟨2, ![n, 1024]⟩ .f32) (r h : ℕ) :
    BI.Storable (upEmb : UEmb _ 𝕄) (ra (F := F) c m r h) := by unfold ra; infer_instance

variable (c : Dev nD) (m : Memref sig .tc sp ⟨2, ![n, 1024]⟩ .f32) (r h : ℕ)

omit [FloatOps F] in
theorem rp_ra (X : Rows F) : (rp c m r h X : sProp 𝕄) ⊢ ra c m r h := by
  unfold rp ra; iintro ⟨%f, -, H⟩; iexists f; iexact H

omit [FloatOps F] in
theorem rp_congr {X Y : Rows F} (hXY : ∀ i, r ≤ i → i < r + h → X i = Y i) : (rp c m r h X : sProp 𝕄) ⊢ rp c m r h Y := by
  unfold rp; iintro ⟨%f, %hf, H⟩; iexists f; isplitr
  · ipureintro; exact fun i h1 h2 => (hf i h1 h2).trans (congrFun (hXY _ h1 h2) _)
  · iexact H

theorem rowSet_disjoint {r' h' : ℕ} (hd : r + h ≤ r' ∨ r' + h' ≤ r) : Disjoint (rowSet m r h) (rowSet m r' h') := by
  unfold rowSet
  rw [Finset.disjoint_map, Finset.disjoint_filter]
  intro i _ h1 h2; omega

theorem rowSet_add (a b : ℕ) : rowSet m r (a + b) = rowSet m r a ∪ rowSet m (r + a) b := by
  unfold rowSet
  rw [← Finset.map_union]
  congr 1
  ext i
  simp only [Finset.mem_union, Finset.mem_filter, Finset.mem_univ, true_and]
  omega

theorem rowSet_all (hm : m.view.set = Finset.univ) : rowSet m 0 n = Finset.univ := by
  rw [← hm]; unfold rowSet View.set
  congr 1
  ext i
  have := (i 0).isLt
  simp only [Finset.mem_filter, Finset.mem_univ, true_and, iff_true]
  exact ⟨Nat.zero_le _, by rw [Nat.zero_add]; exact this⟩

omit [FloatOps F] in
/-- A band is its first rows and its last rows. -/
theorem rp_split (a b : ℕ) (X : Rows F) : (rp c m r (a + b) X : sProp 𝕄) ⊢ iprop(rp c m r a X ∗ rp c m (r + a) b X) := by
  unfold rp
  iintro ⟨%f, %hf, H⟩
  ihave H := (show (m.view.loc (c : Thread nD τ) ↦[rowSet m r (a + b)]{fullShare} f : sProp 𝕄) ⊢
      iprop((m.view.loc (c : Thread nD τ) ↦[rowSet m r a]{fullShare} f) ∗ (m.view.loc (c : Thread nD τ) ↦[rowSet m (r + a) b]{fullShare} f)) from by
    rw [rowSet_add]; exact (pointsTo_union (rowSet_disjoint m _ _ (.inl le_rfl))).1) $$ H
  icases H with ⟨H1, H2⟩
  isplitl [H1]
  · iexists f; isplitr
    · ipureintro; exact fun i h1 h2 => hf i h1 (by omega)
    · iexact H1
  · iexists f; isplitr
    · ipureintro; exact fun i h1 h2 => hf i (by omega) (by omega)
    · iexact H2

omit [FloatOps F] in
theorem rp_join (a b : ℕ) (X : Rows F) : iprop(rp c m r a X ∗ rp c m (r + a) b X) ⊢ (rp c m r (a + b) X : sProp 𝕄) := by
  unfold rp
  iintro ⟨⟨%f, %hf, H1⟩, ⟨%g, %hg, H2⟩⟩
  iexists (rowSet m (r + a) b).piecewise g f
  isplitr
  · ipureintro
    intro i h1 h2
    by_cases hi : (i 0).val < r + a
    · rw [View.read_apply, Finset.piecewise_eq_of_notMem, ← View.read_apply]; · exact hf i h1 hi
      unfold rowSet
      rw [Finset.mem_map']
      simp only [Finset.mem_filter, Finset.mem_univ, true_and]; omega
    · rw [View.read_apply, Finset.piecewise_eq_of_mem, ← View.read_apply]; · exact hg i (by omega) (by omega)
      unfold rowSet
      rw [Finset.mem_map']
      simp only [Finset.mem_filter, Finset.mem_univ, true_and]; omega
  · rw [rowSet_add]
    iapply (pointsTo_join (rowSet_disjoint m _ _ (.inl le_rfl)))
    isplitl [H1]; · iexact H1
    iexact H2

omit [FloatOps F] in
theorem ra_split (a b : ℕ) : (ra c m r (a + b) : sProp 𝕄) ⊢ iprop(ra c m r a ∗ ra c m (r + a) b) := by
  unfold ra
  iintro ⟨%f, H⟩
  ihave H := (show (m.view.loc (c : Thread nD τ) ↦[rowSet m r (a + b)]{fullShare} f : sProp 𝕄) ⊢
      iprop((m.view.loc (c : Thread nD τ) ↦[rowSet m r a]{fullShare} f) ∗ (m.view.loc (c : Thread nD τ) ↦[rowSet m (r + a) b]{fullShare} f)) from by
    rw [rowSet_add]; exact (pointsTo_union (rowSet_disjoint m _ _ (.inl le_rfl))).1) $$ H
  icases H with ⟨H1, H2⟩
  isplitl [H1]
  · iexists f; iexact H1
  · iexists f; iexact H2

omit [FloatOps F] in
theorem ra_join (a b : ℕ) : iprop(ra c m r a ∗ ra c m (r + a) b) ⊢ (ra c m r (a + b) : sProp 𝕄) := by
  unfold ra
  iintro ⟨⟨%f, H1⟩, ⟨%g, H2⟩⟩
  iexists (rowSet m (r + a) b).piecewise g f
  rw [rowSet_add]
  iapply (pointsTo_join (rowSet_disjoint m _ _ (.inl le_rfl)))
  isplitl [H1]; · iexact H1
  iexact H2

/-! ## Bands and the program's rectangles -/

section Rect
variable {off : Fin 2 → ℕ} (ho : off = ![r, 0]) (inb : ∀ a, off a + (![h, 1024] : Fin 2 → ℕ) a ≤ (⟨2, ![n, 1024]⟩ : Shape).size a)
include ho

/-- The rectangle's elements are the band's. -/
theorem set_rows : (m.view.slice (Rect.unit (s := ⟨2, ![n, 1024]⟩) off ![h, 1024] inb)).set = rowSet m r h := by
  subst ho
  rw [View.set_slice]; unfold rowSet
  congr 1
  ext i
  have hi := (i 1).isLt
  simp only [Finset.mem_filter, Finset.mem_univ, true_and]
  rw [Rect.mem_set_unit, Fin.forall_fin_two]
  exact ⟨fun h => h.1, fun h' => ⟨h', Nat.zero_le _, by show (i 1).val < 0 + 1024; rw [Nat.zero_add]; exact hi⟩⟩

omit [FloatOps F] in
/-- Reading the rectangle gives the band's rows. -/
theorem read_rows (f : Buf (Elt F) (m.view.loc (c : Thread nD τ))) (X : Rows F)
    (hf : ∀ i : (⟨2, ![n, 1024]⟩ : Shape).Idx, r ≤ (i 0).val → (i 0).val < r + h → m.view.read (Elt F) f i = X (i 0).val (i 1)) :
    (m.view.slice (Rect.unit (s := ⟨2, ![n, 1024]⟩) off ![h, 1024] inb)).read (Elt F) f = slab r h X := by
  subst ho
  funext j
  have e0 : ((Rect.unit (s := ⟨2, ![n, 1024]⟩) ![r, 0] ![h, 1024] inb).emb j 0).val = r + (j 0).val := by
    rw [Rect.emb_apply]; show r + 1 * (j 0).val = _; rw [Nat.one_mul]
  have e1 : (Rect.unit (s := ⟨2, ![n, 1024]⟩) ![r, 0] ![h, 1024] inb).emb j 1 = j 1 := by
    apply Fin.ext; rw [Rect.emb_apply]; show 0 + 1 * (j 1).val = _; rw [Nat.one_mul, Nat.zero_add]
  have := hf ((Rect.unit (s := ⟨2, ![n, 1024]⟩) ![r, 0] ![h, 1024] inb).emb j) (by rw [e0]; exact Nat.le_add_right _ _)
    (by rw [e0]; exact Nat.add_lt_add_left (j 0).isLt _)
  rw [e0, e1] at this
  exact this

omit [FloatOps F] in
/-- The band held, as the rectangle's elements read; -/
theorem rp_open (X : Rows F) : (rp c m r h X : sProp 𝕄) ⊢ iprop(∃ f : Buf (Elt F) (m.view.loc (c : Thread nD τ)),
    ⌜(m.view.slice (Rect.unit (s := ⟨2, ![n, 1024]⟩) off ![h, 1024] inb)).read (Elt F) f = slab r h X⌝
      ∗ ((m.view.slice (Rect.unit (s := ⟨2, ![n, 1024]⟩) off ![h, 1024] inb)).loc (c : Thread nD τ) ↦[(m.view.slice (Rect.unit (s := ⟨2, ![n, 1024]⟩) off ![h, 1024] inb)).set]{fullShare} f)) := by
  unfold rp
  iintro ⟨%f, %hf, H⟩
  iexists f
  isplitr; · ipureintro; exact read_rows c m r h ho inb f X hf
  rw [set_rows m r h ho inb]
  iexact H

omit [FloatOps F] in
/-- and back. -/
theorem rp_close (X : Rows F) (f : Buf (Elt F) (m.view.loc (c : Thread nD τ)))
    (hf : (m.view.slice (Rect.unit (s := ⟨2, ![n, 1024]⟩) off ![h, 1024] inb)).read (Elt F) f = slab r h X) :
    ((m.view.slice (Rect.unit (s := ⟨2, ![n, 1024]⟩) off ![h, 1024] inb)).loc (c : Thread nD τ) ↦[(m.view.slice (Rect.unit (s := ⟨2, ![n, 1024]⟩) off ![h, 1024] inb)).set]{fullShare} f : sProp 𝕄)
      ⊢ rp c m r h X := by
  rw [set_rows m r h ho inb]
  unfold rp
  iintro H
  iexists f
  isplitr
  · ipureintro
    intro i h1 h2
    subst ho
    have hmem : i ∈ (Rect.unit (s := ⟨2, ![n, 1024]⟩) ![r, 0] ![h, 1024] inb).set := by
      rw [Rect.mem_set_unit, Fin.forall_fin_two]
      exact ⟨⟨h1, h2⟩, Nat.zero_le _, by show (i 1).val < 0 + 1024; rw [Nat.zero_add]; exact (i 1).isLt⟩
    obtain ⟨j, hj⟩ := (Rect.unit (s := ⟨2, ![n, 1024]⟩) ![r, 0] ![h, 1024] inb).exists_idx_of_mem hmem
    have e0 : (i 0).val = r + (j 0).val := by rw [← hj]; show r + 1 * (j 0).val = _; rw [Nat.one_mul]
    have e1 : i 1 = j 1 := by rw [← hj]; apply Fin.ext; show 0 + 1 * (j 1).val = _; rw [Nat.one_mul, Nat.zero_add]
    have := congrFun hf j
    unfold slab at this
    rw [e0, e1, ← this, ← hj]
    rfl
  · iexact H

omit [FloatOps F] in
theorem ra_open : (ra c m r h : sProp 𝕄) ⊢ iprop(∃ f : Buf (Elt F) (m.view.loc (c : Thread nD τ)),
      ((m.view.slice (Rect.unit (s := ⟨2, ![n, 1024]⟩) off ![h, 1024] inb)).loc (c : Thread nD τ) ↦[(m.view.slice (Rect.unit (s := ⟨2, ![n, 1024]⟩) off ![h, 1024] inb)).set]{fullShare} f)) := by
  unfold ra
  rw [set_rows m r h ho inb]

omit [FloatOps F] in
/-- After the rectangle is written whole, the band holds what was written. -/
theorem rp_written (X : Rows F) (f : Buf (Elt F) (m.view.loc (c : Thread nD τ))) (w : (⟨2, ![h, 1024]⟩ : Shape).Idx → Elt F .f32) (hw : w = slab r h X) :
    ((m.view.slice (Rect.unit (s := ⟨2, ![n, 1024]⟩) off ![h, 1024] inb)).loc (c : Thread nD τ) ↦[(m.view.slice (Rect.unit (s := ⟨2, ![n, 1024]⟩) off ![h, 1024] inb)).set]{fullShare}
        ((m.view.slice (Rect.unit (s := ⟨2, ![n, 1024]⟩) off ![h, 1024] inb)).write (Elt F) f w Finset.univ) : sProp 𝕄)
      ⊢ rp c m r h X := by
  refine rp_close c m r h ho inb X _ ?_
  rw [← hw]
  exact View.read_write_univ _ _

end Rect

end Cert.KernelIdeal.Allreduce

end
-- ==== Proof.KI.Sched.lean ====
/-
  What every transfer hands over. The contents of the rows as the reduction goes, and the schedule of the barrier and of the
  transfers' semaphores: who pays each, how much, and with which buffers.
-/
module

public import proofs.«01_k».proof.Proof.KI.Region
public import Idealize.ShloMosaic.Lib.ValueIdxCore
public import Idealize.ShloMosaic.Lib.Transfers

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop)

variable {F : FTy → Type} [FloatOps F]

local notation "𝕄" => MT nD τ sig Unit (Elt F) ℕ UU ℕ

/-! ## Contents -/

/-- What the devices start from: each device's partial, residual and scale. -/
structure Inp (F : FTy → Type) where
  x : Dev nD → Vec F S1x1024x1024 .f32
  r : Dev nD → Vec F S1024x1024 .f32
  g : Dev nD → Vec F S1024 .f32

variable (I : Inp F)

/-- The partial and the residual by rows; -/
def Xc (c : Dev nD) : Rows F := fun row col => I.x c (ix3 (0 : Fin 1) (Fin.ofNat 1024 row) col)
def Rc (c : Dev nD) : Rows F := fun row col => I.r c (ix2 (Fin.ofNat 1024 row) col)
/-- the sum of two devices after the first stage, of four after the second; -/
def Ac (k : Fin 6) (c : Dev nD) : Rows F := fun row col => FloatOps.addf (Xc I c row col) (Xc I (sg k 0 c) row col)
def Bc (k : Fin 6) (c : Dev nD) : Rows F := fun row col => FloatOps.addf (Ac I k c row col) (Ac I k (sg k 1 c) row col)
theorem qs_pos : ∀ k, 0 < qs k := by decide
/-- the finished rows of the quarter a device owns; -/
def Oc (k : Fin 6) (c : Dev nD) : Rows F := fun row col =>
  pay2 k (slab (Q k c) (qs k) (Bc I k c)) (slab (Q k c) (qs k) (Bc I k (sg k 2 c))) (slab (Q k c) (qs k) (Rc I c)) (I.g c)
    (ix2 (⟨(row - Q k c) % qs k, Nat.mod_lt _ (qs_pos k)⟩ : Fin (qs k)) col)
/-- the half a device keeps, its own quarter and its partner's; -/
def O3 (k : Fin 6) (c : Dev nD) : Rows F := fun row =>
  if Q k c ≤ row ∧ row < Q k c + qs k then Oc I k c row else Oc I k (sg k 1 c) row
/-- the chunk, its own half and its partner's. -/
def O4 (k : Fin 6) (c : Dev nD) : Rows F := fun row =>
  if H k c ≤ row ∧ row < H k c + hs k then O3 I k c row else O3 I k (sg k 0 c) row

/-- Rows from `r` on, moved to rows from `z` on. -/
def mv (z r : ℕ) (X : Rows F) : Rows F := fun row => X (r + (row - z))
omit [FloatOps F] in
theorem slab_mv (z r h : ℕ) (X : Rows F) : slab z h (mv z r X) = slab r h X := by
  funext j; unfold slab mv; rw [Nat.add_sub_cancel_left]

/-! ## The semaphores by chunk and slot -/

/-- A chunk's semaphores: send by phase, receive by phase, residual. -/
abbrev Slot : Type := Fin 5 ⊕ Fin 5 ⊕ Unit
abbrev snd (ph : Fin 5) : Slot := .inl ph
abbrev rcv (ph : Fin 5) : Slot := .inr (.inl ph)
abbrev rsd : Slot := .inr (.inr ())

abbrev dsem (k : Fin 6) : Slot → DmaSem sig
  | .inl ph => sndS k ph
  | .inr (.inl ph) => rcvS k ph
  | .inr (.inr _) => resS k

/-- The chunk and slot of a semaphore. -/
def dec (q : DmaSem sig) : Option (Fin 6 × Slot) :=
  if q.val < 3 then none
  else if q.val < 33 then some (Fin.ofNat 6 ((q.val - 3) / 5), .inl (Fin.ofNat 5 ((q.val - 3) % 5)))
  else if q.val < 63 then some (Fin.ofNat 6 ((q.val - 33) / 5), .inr (.inl (Fin.ofNat 5 ((q.val - 33) % 5))))
  else some (Fin.ofNat 6 (q.val - 63), .inr (.inr ()))
theorem dec_dsem : ∀ k s, dec (dsem k s) = some (k, s) := by decide +kernel

/-- The barrier's cell and the transfers' cells of a device. -/
abbrev CI : Type := Unit ⊕ (Fin 6 × Slot)
abbrev csem : CI → SemLoc sig
  | .inl _ => .reg barS
  | .inr ks => .dma (dsem ks.1 ks.2)
abbrev kcell (ci : Dev nD × CI) : GSem nD τ sig := ((ci.1 : Thread nD τ), csem ci.2)
abbrev barCell (c : Dev nD) : GSem nD τ sig := ((c : Thread nD τ), .reg barS)
abbrev dCell (c : Dev nD) (k : Fin 6) (s : Slot) : GSem nD τ sig := ((c : Thread nD τ), .dma (dsem k s))

/-- A transfer's credit: of a half, of a quarter. -/
def credH (k : Fin 6) : ℕ := (zM k 0).view.dmaCredit
def credQ (k : Fin 6) : ℕ := (zM k 1).view.dmaCredit
theorem pZ : ∀ k j, 0 < (⟨2, ![zoneSize k j, 1024]⟩ : Shape).numel := by decide +kernel
theorem credH_pos (k : Fin 6) : 0 < credH k := View.dmaCredit_pos _ (pZ k 0)
theorem credQ_pos (k : Fin 6) : 0 < credQ k := View.dmaCredit_pos _ (pZ k 1)
def amtP (k : Fin 6) : Fin 5 → ℕ | 0 => credH k | 1 => credQ k | 2 => credQ k | 3 => credQ k | 4 => credH k
def amt (k : Fin 6) : Slot → ℕ | .inl ph => amtP k ph | .inr (.inl ph) => amtP k ph | .inr (.inr _) => credQ k
theorem amtP_pos (k : Fin 6) (ph : Fin 5) : 0 < amtP k ph := by fin_cases ph <;> first | exact credH_pos k | exact credQ_pos k
theorem amt_pos (k : Fin 6) (s : Slot) : 0 < amt k s := by
  rcases s with ph | ph | _
  · exact amtP_pos k ph
  · exact amtP_pos k ph
  · exact credQ_pos k

/-! ## Payloads -/

/-- The share of the partial, and of the residual, a chunk's transfer reads from. -/
abbrev tok (k : Fin 6) : PosShare TreeShare := shareTok fullShare 6 k

/-- What the landing of a transfer gives back to the sender; -/
def sendPay (k : Fin 6) : Fin 5 → Dev nD → sProp 𝕄
  | 0 => fun c => iprop((xsM k c).view.loc (c : Thread nD τ) ↦[(xsM k c).view.set]{tok k} I.x c)
  | 1 => fun c => rp c aM (Q k (sg k 1 c)) (qs k) (Ac I k c)
  | 2 => fun c => rp c aM (Q k c) (qs k) (Bc I k c)
  | 3 => fun c => rp c oM (Q k c) (qs k) (Oc I k c)
  | 4 => fun c => rp c oM (H k c) (hs k) (O3 I k c)
/-- to the receiver; -/
def recvPay (k : Fin 6) : Fin 5 → Dev nD → sProp 𝕄
  | 0 => fun c => rp c (bM k) 0 (hs k) (mv 0 (H k c) (Xc I (sg k 0 c)))
  | 1 => fun c => rp c (bM k) (hs k) (qs k) (mv (hs k) (Q k c) (Ac I k (sg k 1 c)))
  | 2 => fun c => rp c (bM k) (zoneOff k 2) (qs k) (mv (zoneOff k 2) (Q k c) (Bc I k (sg k 2 c)))
  | 3 => fun c => rp c oM (Q k (sg k 1 c)) (qs k) (Oc I k (sg k 1 c))
  | 4 => fun c => rp c oM (H k (sg k 0 c)) (hs k) (O3 I k (sg k 0 c))
/-- of the residual's copy. -/
def resPay (k : Fin 6) (c : Dev nD) : sProp 𝕄 :=
  iprop(rp c lM (resOff k) (qs k) (mv (resOff k) (Q k c) (Rc I c)) ∗ ((rqM k c).view.loc (c : Thread nD τ) ↦[(rqM k c).view.set]{tok k} I.r c))

def pay (k : Fin 6) : Slot → Dev nD → sProp 𝕄
  | .inl ph => sendPay I k ph
  | .inr (.inl ph) => recvPay I k ph
  | .inr (.inr _) => resPay I k

/-- The rows of device `d` that its stage-`j` partner writes for chunk `k`. -/
def LZ (k : Fin 6) : Fin 3 → Dev nD → sProp 𝕄
  | 0 => fun d => iprop(ra d (bM k) 0 (hs k) ∗ ra d oM (H k (sg k 0 d)) (hs k))
  | 1 => fun d => iprop(ra d (bM k) (hs k) (qs k) ∗ ra d oM (Q k (sg k 1 d)) (qs k))
  | 2 => fun d => iprop(ra d (bM k) (zoneOff k 2) (qs k))
/-- What device `p` receives with the signal of its peer along axis `a`: the peer's rows it will write. -/
def barPay (a : Fin 3) (p : Dev nD) : sProp 𝕄 := bigSep Finset.univ fun k : Fin 6 => LZ k (axInv k a) (peer a p)

omit [FloatOps F] in
instance LZ_storable (k : Fin 6) (j : Fin 3) (d : Dev nD) : BI.Storable (upEmb : UEmb _ 𝕄) (LZ (F := F) k j d) := by
  fin_cases j <;> (unfold LZ; infer_instance)
omit [FloatOps F] in
instance barPay_storable (a : Fin 3) (p : Dev nD) : BI.Storable (upEmb : UEmb _ 𝕄) (barPay (F := F) a p) := by unfold barPay; infer_instance
instance sendPay_storable (k : Fin 6) (ph : Fin 5) (c : Dev nD) : BI.Storable (upEmb : UEmb _ 𝕄) (sendPay I k ph c) := by
  fin_cases ph <;> (unfold sendPay; infer_instance)
instance recvPay_storable (k : Fin 6) (ph : Fin 5) (c : Dev nD) : BI.Storable (upEmb : UEmb _ 𝕄) (recvPay I k ph c) := by
  fin_cases ph <;> (unfold recvPay; infer_instance)
omit [FloatOps F] in
instance resPay_storable (k : Fin 6) (c : Dev nD) : BI.Storable (upEmb : UEmb _ 𝕄) (resPay I k c) := by unfold resPay; infer_instance
instance pay_storable (k : Fin 6) (s : Slot) (c : Dev nD) : BI.Storable (upEmb : UEmb _ 𝕄) (pay I k s c) := by
  rcases s with ph | ph | _ <;> (unfold pay; infer_instance)

/-! ## The schedule -/

/-- One round: a barrier cell has three duties of one unit, one per axis; a transfer's cell one duty of its credit. -/
def Rd : Rounds.Schedule (GSem nD τ sig) (Fin 3) 𝕄 where
  duties g r := if r = 0 ∧ g.1.2 = .tc then
      (match g.2 with
        | .reg s => if s = barS then Finset.univ else ∅
        | .dma q => if (dec q).isSome then {0} else ∅)
    else ∅
  unitless _ := False
  amount g _ _ := match g.2 with
    | .reg _ => 1
    | .dma q => match dec q with | some (k, s) => amt k s | none => 1
  payload g _ d := match g.2 with
    | .reg s => barPay d g.1.1
    | .dma q => match dec q with | some (k, s) => pay I k s g.1.1 | none => iprop(emp)
  amount_pos g _ _ _ := by
    rcases g with ⟨t, sm⟩
    cases sm with
    | reg s => exact Nat.one_pos
    | dma q =>
      show 0 < (match dec q with | some (k, s) => amt k s | none => 1)
      cases dec q with
      | none => exact Nat.one_pos
      | some ks => exact amt_pos _ _

instance Rd_payload_storable (g : GSem nD τ sig) (r : ℕ) (d : Fin 3) :
    BI.Storable (upEmb : UEmb _ 𝕄) ((Rd I).payload g r d) := by
  rcases g with ⟨t, sm⟩
  cases sm with
  | reg s => show BI.Storable upEmb (barPay d t.1); infer_instance
  | dma q =>
    show BI.Storable upEmb (match dec q with | some (k, s) => pay I k s t.1 | none => iprop(emp))
    cases dec q with
    | none => infer_instance
    | some ks => show BI.Storable upEmb (pay I ks.1 ks.2 t.1); infer_instance

section Facts
variable (c : Dev nD) (k : Fin 6) (s : Slot)

theorem duties_bar : (Rd I).duties (barCell c) 0 = Finset.univ := by
  dsimp only [Rd]; rw [if_pos ⟨rfl, rfl⟩, if_pos rfl]
theorem duties_dma : (Rd I).duties (dCell c k s) 0 = {0} := by
  dsimp only [Rd]; rw [if_pos ⟨rfl, rfl⟩, if_pos (by rw [dec_dsem]; rfl)]
theorem duties_later (g : GSem nD τ sig) : ∀ r, 1 ≤ r → (Rd I).duties g r = ∅ :=
  fun r hr => by dsimp only [Rd]; rw [if_neg fun h => by omega]
theorem amount_bar (d : Fin 3) : (Rd I).amount (barCell c) 0 d = 1 := rfl
theorem amount_dma (d : Fin 3) : (Rd I).amount (dCell c k s) 0 d = amt k s := by
  dsimp only [Rd]; rw [dec_dsem]
theorem expect_bar : (Rd I).expect (barCell c) 0 = 3 := by
  unfold Schedule.expect Schedule.amountOf; rw [duties_bar]; rfl
theorem expect_dma : (Rd I).expect (dCell c k s) 0 = amt k s := by
  unfold Schedule.expect Schedule.amountOf; rw [duties_dma, Finset.sum_singleton, amount_dma]
theorem payload_bar (d : Fin 3) : (Rd I).payload (barCell c) 0 d = barPay d c := rfl
theorem payload_dma (d : Fin 3) : (Rd I).payload (dCell c k s) 0 d = pay I k s c := by
  dsimp only [Rd]; rw [dec_dsem]
theorem rest_dma : bigSep ((Rd I).duties (dCell c k s) 0 \ ∅) (fun d => (Rd I).payload (dCell c k s) 0 d) = pay I k s c := by
  rw [Finset.sdiff_empty, duties_dma, bigSep_singleton, payload_dma]
theorem rest_bar : bigSep ((Rd I).duties (barCell c) 0 \ ∅) (fun d => (Rd I).payload (barCell c) 0 d) = bigSep Finset.univ fun a => barPay a c := by
  rw [Finset.sdiff_empty, duties_bar]; rfl
end Facts

/-! ## What each core owes; the levels -/

/-- A chunk's place in the order. -/
def pos : Fin 6 → ℕ := ![4, 0, 5, 1, 2, 3]
def seqNo (ph : Fin 5) (k : Fin 6) : ℕ := 6 * ph.val + pos k

/-- What device `c` owes for one transfer. -/
def owe1 (c : Dev nD) (x : Fin 5 × Fin 6) : CellTallies nD τ sig Unit := tallyAt (dCell (sg x.2 (jp x.1) c) x.2 (rcv x.1)) () (amtP x.2 x.1)
/-- What device `c` owes while the transfers `l` are still to be sent. -/
def Ow (c : Dev nD) (l : List (Fin 5 × Fin 6)) : CellTallies nD τ sig Unit := (l.map (owe1 c)).sum
/-- All the transfers, in order. -/
def sends : List (Fin 5 × Fin 6) := ([0, 1, 2, 3, 4] : List (Fin 5)).flatMap fun ph => order.map fun k => (ph, k)
/-- What device `c` owes at launch. -/
def O₀ (c : Dev nD) : CellTallies nD τ sig Unit :=
  Ow c sends + tallyAt (barCell (peer 2 c)) () 1 + tallyAt (barCell (peer 1 c)) () 1 + tallyAt (barCell (peer 0 c)) () 1

theorem Ow_cons (c : Dev nD) (x : Fin 5 × Fin 6) (l : List (Fin 5 × Fin 6)) : Ow c (x :: l) = Ow c l + owe1 c x := by
  unfold Ow; rw [List.map_cons, List.sum_cons, add_comm]

def L (g : GSem nD τ sig) : Finset Unit := if g.1.2 = .tc then {()} else ∅
/-- The level of a transfer's cell: a receive cell by its place in the order, the others at 0. -/
def slv (k : Fin 6) : Slot → ℕ | .inr (.inl ph) => 2 + seqNo ph k | _ => 0
def lv (g : GSem nD τ sig) (_ : Unit) : ℕ := match g.2 with
  | .reg _ => 1
  | .dma q => match dec q with | some (k, s) => slv k s | none => 0

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (k : Fin 6) (s : Slot) (u : Unit) : lv (dCell c k s) u = slv k s := by dsimp only [lv]; rw [dec_dsem]

theorem Ow_pos {c : Dev nD} {l : List (Fin 5 × Fin 6)} {g : GSem nD τ sig} {u : Unit} (h : 0 < Ow c l g u) :
    ∃ x ∈ l, g = dCell (sg x.2 (jp x.1) c) x.2 (rcv x.1) := by
  induction l with
  | nil => exact absurd h (Nat.lt_irrefl 0)
  | cons x l ih =>
    rw [Ow_cons, Pi.add_apply, Finsupp.add_apply] at h
    by_cases h' : 0 < Ow c l g u
    · obtain ⟨y, hy, e⟩ := ih h'; exact ⟨y, List.mem_cons_of_mem _ hy, e⟩
    · refine ⟨x, List.mem_cons_self, ?_⟩
      have h2 : 0 < owe1 c x g u := by omega
      unfold owe1 at h2
      rw [tallyAt_apply] at h2
      by_contra hn
      rw [if_neg (fun h => hn h.1)] at h2
      exact Nat.lt_irrefl 0 h2

omit [FloatOps F] in
/-- A wait is allowed while every transfer still owed is at a higher level. -/
theorem mayWait (c : Dev nD) (sm : SemLoc sig) (b : ℕ) (hb : lv ((c : Thread nD τ), sm) () ≤ b) (l : List (Fin 5 × Fin 6))
    (hl : ∀ x ∈ l, b < 2 + seqNo x.1 x.2) : (levAts L lv : sProp 𝕄) ⊢ MayWait (c : Thread nD τ) sm () (Ow c l) :=
  MayOwe.of_cut (L := L) (lev := lv) b (fun p hp => by rw [Finset.mem_singleton.mp hp, L_tc]; exact Finset.mem_singleton_self _)
    (fun g u hg => by obtain ⟨x, _, rfl⟩ := Ow_pos hg; exact Finset.mem_singleton_self _)
    (fun p hp => by rw [Finset.mem_singleton.mp hp]; exact hb)
    (fun g u hg => by obtain ⟨x, hx, rfl⟩ := Ow_pos hg; rw [lv_dma]; exact hl x hx)

end Cert.KernelIdeal.Allreduce

end
-- ==== Proof.KI.Step.lean ====
/-
  One transfer, one wait, one copy: the rules the run uses, over a chunk and a phase.
-/
module

public import proofs.«01_k».proof.Proof.KI.Sched

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop)

variable {F : FTy → Type} [FloatOps F]

local notation "𝕄" => MT nD τ sig Unit (Elt F) ℕ UU ℕ

abbrev 𝒱₀ : Variants := Variants.none

variable (I : Inp F) (K : Dev nD × CI → ℕ)

/-- Every cell's invariant, and that every cell is at round 0 or later. -/
def records : sProp 𝕄 :=
  iprop((bigSep Finset.univ fun ci : Dev nD × CI => cellInv ER (Rd I) (K ci) (kcell ci))
    ∗ bigSep Finset.univ fun ci : Dev nD × CI => reached ER (kcell ci) 0)

instance records_persistent : BI.Persistent (records I K) := by unfold records; infer_instance

theorem inv_at (ci : Dev nD × CI) : records I K ⊢ cellInv ER (Rd I) (K ci) (kcell ci) := by
  unfold records; iintro ⟨H, -⟩; iapply (show (bigSep Finset.univ fun ci : Dev nD × CI => (cellInv ER (Rd I) (K ci) (kcell ci) : sProp 𝕄)) ⊢ cellInv ER (Rd I) (K ci) (kcell ci) from bigSep_elim (Finset.mem_univ ci)); iexact H
theorem reached_at (ci : Dev nD × CI) : records I K ⊢ reached ER (kcell ci) 0 := by
  unfold records; iintro ⟨-, H⟩; iapply (show (bigSep Finset.univ fun ci : Dev nD × CI => (reached ER (kcell ci) 0 : sProp 𝕄)) ⊢ reached ER (kcell ci) 0 from bigSep_elim (Finset.mem_univ ci)); iexact H

/-- What device `c` still owes, whatever it has waited for. -/
def ow (c : Dev nD) (l : List (Fin 5 × Fin 6)) : sProp 𝕄 := iprop(∃ W, owes (c : Thread nD τ) (Ow c l) W)

abbrev wpc (c : Dev nD) (p : PG F PUnit) (Q : PUnit.{1} → sProp 𝕄) : sProp 𝕄 :=
  wp frame (wpE (defs₀ (F := F)) 𝒱₀ (c : Thread nD τ) none) Set.univ p Q

variable (c : Dev nD) {kk : PUnit.{1} → PG F PUnit}

/-- A send to device `n`, the phase's partner: the source is lent, the destination given, one transfer less owed. -/
theorem wp_xfer_at {Q : PUnit.{1} → sProp 𝕄} (ph : Fin 5) (k : Fin 6) (n : Dev nD) (hn : n = sg k (jp ph) c) {s : Shape} {src dst : Memref sig .tc .vmem s .f32}
    {hd : dst.view.ref.isScScratch = false} {hs' : src.view.WordExact} {hdst : dst.view.WordExact}
    {hsem : DmaTarget.Typed .vmem (.dma (rcvS k ph)) (.remote (Dev.tc n : Thread nD τ) dst (.dma (sndS k ph)) hd)}
    (hamt : dst.view.dmaCredit = amtP k ph) {q : PosShare TreeShare} (fs : Buf (Elt F) (src.view.loc (c : Thread nD τ)))
    (hpay₁ : (src.view.loc (c : Thread nD τ) ↦[src.view.set]{q} fs : sProp 𝕄) ⊢ sendPay I k ph c)
    (fd : Buf (Elt F) (dst.view.loc (sg k (jp ph) c : Thread nD τ)))
    (hpay₂ : (dst.view.loc (sg k (jp ph) c : Thread nD τ) ↦[dst.view.set]{fullShare} (dst.view.write (Elt F) fd (src.view.read (Elt F) fs) Finset.univ) : sProp 𝕄)
      ⊢ recvPay I k ph (sg k (jp ph) c))
    (l : List (Fin 5 × Fin 6)) :
    iprop(records I K ∗ (src.view.loc (c : Thread nD τ) ↦[src.view.set]{q} fs) ∗ (dst.view.loc (sg k (jp ph) c : Thread nD τ) ↦[dst.view.set]{fullShare} fd)
        ∗ ow c ((ph, k) :: l) ∗ dutyTok ER (dCell c k (snd ph)) 0 0 ∗ dutyTok ER (dCell (sg k (jp ph) c) k (rcv ph)) 0 0)
      ⊢ iprop(((cred (tallyAt (dCell c k (snd ph)) () (amtP k ph)) ∗ ow c l) -∗ wpc c (kk ⟨⟩) Q)
          -∗ wpc c (.op (.enqueueDma src (.remote (Dev.tc n : Thread nD τ) dst (.dma (sndS k ph)) hd) (.dma (rcvS k ph)) hs' hdst hsem) kk) Q) := by
  subst hn
  iintro ⟨#HR, Hs, Hd, HO, Ht1, Ht2⟩ Hk
  unfold ow
  icases HO with ⟨%W, HO⟩
  iapply (Rounds.wp_send_pointsTo 𝒱₀ ER (Rd I) (c : Thread nD τ) none (κ₁ := K (c, .inr (k, snd ph))) (κ₂ := K (sg k (jp ph) c, .inr (k, rcv ph)))
    (sS := .dma (sndS k ph)) (sem := .dma (rcvS k ph)) (r₁ := 0) (r₂ := 0) (d₁ := 0) (d₂ := 0) (fd := fd)
    (by rw [duties_dma I c k (snd ph)]; exact Finset.mem_singleton_self _) (by rw [duties_dma I _ k (rcv ph)]; exact Finset.mem_singleton_self _)
    () () (amtP k ph) hamt (amount_dma I c k (snd ph) 0) (amount_dma I _ k (rcv ph) 0) (Ow c l) (Ow_cons c (ph, k) l) (W := W)
    (by rw [payload_dma I c k (snd ph)]; exact hpay₁) (by rw [payload_dma I _ k (rcv ph)]; exact hpay₂)) $$ [Hs Hd HO Ht1 Ht2]
  · isplitr; · iapply (inv_at I K (c, .inr (k, snd ph))); iexact HR
    isplitr; · iapply (inv_at I K (sg k (jp ph) c, .inr (k, rcv ph))); iexact HR
    isplitl [Hs]; · iexact Hs
    isplitl [Hd]; · iexact Hd
    isplitl [HO]; · iexact HO
    isplitl [Ht1]; · iexact Ht1
    isplitr; · iapply (reached_at I K (c, .inr (k, snd ph))); iexact HR
    isplitl [Ht2]; · iexact Ht2
    iapply (reached_at I K (sg k (jp ph) c, .inr (k, rcv ph))); iexact HR
  iintro ⟨Hc, HO⟩
  iapply Hk
  isplitl [Hc]; · iexact Hc
  iexists W; iexact HO

/-- A wait on a transfer's cell: the payload, and the counter back at zero. -/
theorem wp_await {Q : PUnit.{1} → sProp 𝕄} (k : Fin 6) (s : Slot) (l : List (Fin 5 × Fin 6)) (hl : ∀ x ∈ l, slv k s < 2 + seqNo x.1 x.2)
    {sp sp' : Space} {sh sh' : Shape} {src : Memref sig .tc sp sh .f32} {dst : Memref sig .tc sp' sh' .f32} {hs' : src.view.WordExact} {hdst : dst.view.WordExact}
    (hamt : dst.view.dmaCredit = amt k s) :
    iprop(records I K ∗ levAts L lv ∗ ow c l ∗ cred (tallyAt (dCell c k s) () (amt k s)) ∗ atPos ER (dCell c k s) 0 ∅ 0)
      ⊢ iprop(((ow c l ∗ semVal (dCell c k s) 0 ∗ pay I k s c) -∗ wpc c (kk ⟨⟩) Q)
          -∗ wpc c (.op (.waitDma2 (dsem k s) src dst hs' hdst) kk) Q) := by
  iintro ⟨#HR, #Hlev, HO, Hc, Hat⟩ Hk
  unfold ow
  icases HO with ⟨%W, HO⟩
  iapply (Rounds.wp_wait_rest_token 𝒱₀ ER (Rd I) (c : Thread nD τ) none (κ := K (c, .inr (k, s)))
      (wpE_waitDma2_eq 𝒱₀ (c : Thread nD τ) none Set.univ) (Set.mem_univ _) () (O := Ow c l) (W := W) (R := 0) (m := 0) (T := ∅)
      (by rw [Nat.zero_add, expect_dma I c k s, hamt])) $$ [Hc HO Hat]
  · isplitr; · iapply (inv_at I K (c, .inr (k, s))); iexact HR
    isplitl [Hc]; · rw [hamt]; iexact Hc
    isplitl [HO]; · iexact HO
    isplitr; · iapply (mayWait (F := F) c (.dma (dsem k s)) (slv k s) (le_of_eq (lv_dma c k s ())) l hl); iexact Hlev
    iexact Hat
  iintro ⟨HO, Hat, -, Hp⟩
  ihave Hp := (Entails.of_eq (rest_dma I c k s)) $$ Hp
  imod (Rounds.cell_close ER (Rd I) (Set.mem_univ (K (c, .inr (k, s)))) (fun h => h) (R := 0 + 1) (duties_later I (dCell c k s))) $$ [Hat] with Hz
  · isplitr; · iapply (inv_at I K (c, .inr (k, s))); iexact HR
    iexact Hat
  iapply Hk
  isplitl [HO]; · iexists _; iexact HO
  isplitl [Hz]; · iexact Hz
  iexact Hp

/-- A barrier signal to device `n`, its duty along axis `a`. -/
theorem wp_sig {Q : PUnit.{1} → sProp 𝕄} (a : Fin 3) (n : Dev nD) (hn : n = peer a c) (O : CellTallies nD τ sig Unit) (W : Waits sig Unit) :
    iprop(records I K ∗ owes (c : Thread nD τ) (O + tallyAt (barCell (peer a c)) () 1) W ∗ dutyTok ER (barCell (peer a c)) 0 a ∗ barPay a (peer a c))
      ⊢ iprop((owes (c : Thread nD τ) O W -∗ wpc c (kk ⟨⟩) Q) -∗ wpc c ((semSignalWord n barS 1#32 : PG F PUnit).bind kk) Q) := by
  subst hn
  iintro ⟨#HR, HO, Ht, Hp⟩ Hk
  iapply (Rounds.wp_signal 𝒱₀ ER (Rd I) (c : Thread nD τ) none (dst := (peer a c : Thread nD τ)) (κ := K (peer a c, .inl ()))
      (d := a) (by rw [duties_bar I (peer a c)]; exact Finset.mem_univ _) ((amount_bar I (peer a c) a).trans (by decide)) () O rfl) $$ [HO Ht Hp]
  · isplitr; · iapply (inv_at I K (peer a c, .inl ())); iexact HR
    isplitl [HO]; · iexact HO
    isplitl [Ht]; · iexact Ht
    isplitl [Hp]; · rw [payload_bar I]; iexact Hp
    iapply (reached_at I K (peer a c, .inl ())); iexact HR
  iexact Hk

/-- The barrier wait: the three payloads, and the counter back at zero. -/
theorem wp_bar {Q : PUnit.{1} → sProp 𝕄} (W : Waits sig Unit) :
    iprop(records I K ∗ levAts L lv ∗ owes (c : Thread nD τ) (Ow c sends) W ∗ cred (tallyAt (barCell c) () 3) ∗ atPos ER (barCell c) 0 ∅ 0)
      ⊢ iprop(((ow c sends ∗ semVal (barCell c) 0 ∗ bigSep Finset.univ fun a : Fin 3 => barPay a c) -∗ wpc c (kk ⟨⟩) Q)
          -∗ wpc c ((semWaitWord barS 3#32 : PG F PUnit).bind kk) Q) := by
  iintro ⟨#HR, #Hlev, HO, Hc, Hat⟩ Hk
  iapply (Rounds.wp_wait_rest_token 𝒱₀ ER (Rd I) (c : Thread nD τ) none (κ := K (c, .inl ()))
      (wpE_semWait_eq 𝒱₀ (c : Thread nD τ) none Set.univ) (Set.mem_univ _) () (O := Ow c sends) (W := W) (R := 0) (m := 0) (T := ∅)
      (by rw [expect_bar I]; decide)) $$ [Hc HO Hat]
  · isplitr; · iapply (inv_at I K (c, .inl ())); iexact HR
    isplitl [Hc]; · iexact Hc
    isplitl [HO]; · iexact HO
    isplitr; · iapply (mayWait (F := F) c (.reg barS) 1 le_rfl sends (fun x _ => by omega)); iexact Hlev
    iexact Hat
  iintro ⟨HO, Hat, -, Hp⟩
  ihave Hp := (Entails.of_eq (rest_bar I c)) $$ Hp
  imod (Rounds.cell_close ER (Rd I) (Set.mem_univ (K (c, .inl ()))) (fun h => h) (R := 0 + 1) (duties_later I (barCell c))) $$ [Hat] with Hz
  · isplitr; · iapply (inv_at I K (c, .inl ())); iexact HR
    iexact Hat
  iapply Hk
  isplitl [HO]; · unfold ow; iexists _; iexact HO
  isplitl [Hz]; · iexact Hz
  iexact Hp

/-- The residual's copy. -/
theorem wp_rescopy {Q : PUnit.{1} → sProp 𝕄} (k : Fin 6) {src : Memref sig .tc .hbm (SQ k) .f32} {dst : Memref sig .tc .vmem (SQ k) .f32} {hs' : src.view.WordExact} {hdst : dst.view.WordExact}
    {hsem : DmaTarget.Typed (nD := nD) (τ := τ) (p := .tc) .hbm (.dma (resS k)) (.here dst)}
    (hamt : dst.view.dmaCredit = credQ k) {q : PosShare TreeShare} (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ (resPay I k c : sProp 𝕄)) :
    iprop(records I K ∗ (src.view.loc (c : Thread nD τ) ↦[src.view.set]{q} fs) ∗ (dst.view.loc (c : Thread nD τ) ↦[dst.view.set]{fullShare} fd)
        ∗ dutyTok ER (dCell c k rsd) 0 0)
      ⊢ iprop((cred (tallyAt (dCell c k rsd) () (credQ k)) -∗ wpc c (kk ⟨⟩) Q)
          -∗ wpc c (.op (.enqueueDma src (.here dst) (.dma (resS k)) hs' hdst hsem) kk) Q) := by
  iintro ⟨#HR, Hs, Hd, Ht⟩ Hk
  iapply (Rounds.wp_copy_pointsTo 𝒱₀ ER (Rd I) (c : Thread nD τ) none (κ := K (c, .inr (k, rsd))) (sem := .dma (resS k)) (r := 0) (d := 0) (fd := fd)
    (by rw [duties_dma I c k rsd]; exact Finset.mem_singleton_self _) () (credQ k) hamt (amount_dma I c k rsd 0)
    (by rw [payload_dma I c k rsd]; exact hpay)) $$ [Hs Hd Ht]
  · isplitr; · iapply (inv_at I K (c, .inr (k, rsd))); iexact HR
    isplitl [Hs]; · iexact Hs
    isplitl [Hd]; · iexact Hd
    isplitl [Ht]; · iexact Ht
    iapply (reached_at I K (c, .inr (k, rsd))); iexact HR
  iexact Hk

end Cert.KernelIdeal.Allreduce

end
-- ==== Proof.KI.Mem.lean ====
/-
  The rows a device holds at each of a chunk's fifteen steps, and what each transfer takes from them and puts back.
-/
module

public import proofs.«01_k».proof.Proof.KI.Step
public import Idealize.ShloMosaic.Lib.Pipeline.Value

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop)

variable {F : FTy → Type} [FloatOps F]

local notation "𝕄" => MT nD τ sig Unit (Elt F) ℕ UU ℕ

/-! ## Two bands that make one -/

section Two
variable {sp : Space} {n : ℕ} (c : Dev nD) (m : Memref sig .tc sp ⟨2, ![n, 1024]⟩ .f32) (r h a b s : ℕ)
variable (hab : (a = r ∧ b = r + h) ∨ (a = r + h ∧ b = r)) (hsz : s = h + h)
include hab hsz

omit [FloatOps F] in
theorem rp_two (X : Rows F) : iprop(rp c m a h X ∗ rp c m b h X) ⊢ (rp c m r s X : sProp 𝕄) := by
  subst hsz
  rcases hab with ⟨rfl, rfl⟩ | ⟨rfl, rfl⟩
  · exact rp_join c m _ h h X
  · exact sep_comm.1.trans (rp_join c m _ h h X)
omit [FloatOps F] in
theorem rp_two' (X : Rows F) : (rp c m r s X : sProp 𝕄) ⊢ iprop(rp c m a h X ∗ rp c m b h X) := by
  subst hsz
  rcases hab with ⟨rfl, rfl⟩ | ⟨rfl, rfl⟩
  · exact rp_split c m _ h h X
  · exact (rp_split c m _ h h X).trans sep_comm.1
omit [FloatOps F] in
theorem ra_two : iprop(ra c m a h ∗ ra c m b h) ⊢ (ra c m r s : sProp 𝕄) := by
  subst hsz
  rcases hab with ⟨rfl, rfl⟩ | ⟨rfl, rfl⟩
  · exact ra_join c m _ h h
  · exact sep_comm.1.trans (ra_join c m _ h h)
omit [FloatOps F] in
theorem ra_two' : (ra c m r s : sProp 𝕄) ⊢ iprop(ra c m a h ∗ ra c m b h) := by
  subst hsz
  rcases hab with ⟨rfl, rfl⟩ | ⟨rfl, rfl⟩
  · exact ra_split c m _ h h
  · exact (ra_split c m _ h h).trans sep_comm.1
end Two

theorem rs_eq2 : ∀ k, rs k = hs k + hs k := by decide
theorem H_le : ∀ k d, H k d + hs k ≤ 1024 := by decide +kernel

/-! ## What the loads read -/

variable (I : Inp F)

/-- A band of the partial, read through a rectangle. -/
theorem x_read (c : Dev nD) {off : Fin 3 → ℕ} (r h : ℕ) (ho : off = ![0, r, 0]) (hr : r + h ≤ 1024)
    (inb : ∀ a, off a + (![1, h, 1024] : Fin 3 → ℕ) a ≤ S1x1024x1024.size a) (j : (⟨2, ![h, 1024]⟩ : Shape).Idx) :
    (xM.view.slice (Rect.unit (s := S1x1024x1024) off ![1, h, 1024] inb)).read (Elt F) (I.x c) (Fin.cons (⟨0, Nat.one_pos⟩ : Fin 1) j)
      = slab r h (Xc I c) j := by
  subst ho
  show I.x c ((Rect.unit (s := S1x1024x1024) ![0, r, 0] ![1, h, 1024] inb).emb (Fin.cons (⟨0, Nat.one_pos⟩ : Fin 1) j)) = I.x c (ix3 (0 : Fin 1) (Fin.ofNat 1024 (r + (j 0).val)) (j 1))
  congr 1
  have h0 : r + (j 0).val < 1024 := lt_of_lt_of_le (Nat.add_lt_add_left (j 0).isLt r) hr
  funext a
  apply Fin.ext
  rw [Rect.emb_apply]
  fin_cases a
  · rfl
  · show r + 1 * (j 0).val = (r + (j 0).val) % 1024
    rw [Nat.mod_eq_of_lt h0, Nat.one_mul]
  · show 0 + 1 * (j 1).val = (j 1).val
    rw [Nat.zero_add, Nat.one_mul]

theorem xs_read (k : Fin 6) (c : Dev nD) : (xsM k c).view.read (Elt F) (I.x c) = slab (H k (sg k 0 c)) (hs k) (Xc I c) := by
  funext j
  have := x_read I c (H k (sg k 0 c)) (hs k) (oXs_eq k c) (H_le k _) (oXs_inb k c) j
  rw [← this]
  show (xM.view.slice (rXs k c)).read (Elt F) (I.x c) (Shape.reshapeEquiv (sqz k).numel_eq j) = _
  congr 1
  exact Shape.reshapeEquiv_cons_one (d := ![hs k, 1024]) (sqz k).numel_eq j

theorem pay0_eq (k : Fin 6) (c : Dev nD) (w : Vec F (SH k) .f32) (hw : w = slab (H k c) (hs k) (Xc I (sg k 0 c))) :
    pay0 k ((xM.access (rXk k c)).read (Elt F) (I.x c)) w = slab (H k c) (hs k) (Ac I k c) := by
  subst hw
  unfold pay0
  rw [shapeCast_self]
  funext j
  show FloatOps.addf (shapeCast (SH k) ((xM.access (rXk k c)).read (Elt F) (I.x c)) (sc0 k) j) _ = _
  rw [show shapeCast (SH k) ((xM.access (rXk k c)).read (Elt F) (I.x c)) (sc0 k) j
      = (xM.access (rXk k c)).read (Elt F) (I.x c) (Fin.cons (⟨0, Nat.one_pos⟩ : Fin 1) j)
    from shapeCast_dropUnit_apply ![hs k, 1024] _ (sc0 k) j]
  rw [show (xM.access (rXk k c)).read (Elt F) (I.x c) (Fin.cons (⟨0, Nat.one_pos⟩ : Fin 1) j) = slab (H k c) (hs k) (Xc I c) j
    from x_read I c (H k c) (hs k) (oXk_eq k c) (H_le k _) (oXk_inb k c) j]
  rfl

theorem pay1_eq (k : Fin 6) (c : Dev nD) :
    pay1 k (slab (Q k c) (qs k) (Ac I k c)) (slab (Q k c) (qs k) (Ac I k (sg k 1 c))) = slab (Q k c) (qs k) (Bc I k c) := by
  unfold pay1; rw [shapeCast_self]; rfl

theorem pay2_eq (k : Fin 6) (c : Dev nD) :
    pay2 k (slab (Q k c) (qs k) (Bc I k c)) (slab (Q k c) (qs k) (Bc I k (sg k 2 c))) (slab (Q k c) (qs k) (Rc I c)) (I.g c)
      = slab (Q k c) (qs k) (Oc I k c) := by
  funext j
  unfold slab Oc
  congr 1
  funext a
  have h0 : (j 0).val < qs k := (j 0).isLt
  fin_cases a
  · apply Fin.ext
    show (j 0).val = (Q k c + (j 0).val - Q k c) % qs k
    rw [Nat.add_sub_cancel_left, Nat.mod_eq_of_lt h0]
  · rfl

theorem r_read (k : Fin 6) (c : Dev nD) : (rqM k c).view.read (Elt F) (I.r c) = slab (Q k c) (qs k) (Rc I c) := by
  refine read_rows c rM (Q k c) (qs k) (oQ_eq k c) (oQ_inb k c) (I.r c) (Rc I c) ?_
  intro i _ _
  show I.r c i = I.r c (ix2 (Fin.ofNat 1024 (i 0).val) (i 1))
  congr 1
  funext a
  fin_cases a
  · apply Fin.ext
    show (i 0).val = (i 0).val % 1024
    exact (Nat.mod_eq_of_lt (i 0).isLt).symm
  · rfl

/-! ## The rows held at step `t` of a chunk -/

variable (k : Fin 6) (c : Dev nD)

/-- The partial, to read from: whole, and less the half being sent. -/
def xt : sProp 𝕄 := iprop((c : Thread nD τ).loc cc0_stg0_0 ↦[Finset.univ]{tok k} I.x c)
def xt' : sProp 𝕄 := iprop((c : Thread nD τ).loc cc0_stg0_0 ↦[Finset.univ \ (xsM k c).view.set]{tok k} I.x c)
/-- The residual likewise. -/
def rt : sProp 𝕄 := iprop((c : Thread nD τ).loc main_arg1 ↦[Finset.univ]{tok k} I.r c)
def rt' : sProp 𝕄 := iprop((c : Thread nD τ).loc main_arg1 ↦[Finset.univ \ (rqM k c).view.set]{tok k} I.r c)

/-- The partial, and the zone of the first stage (the partner's until it is sent to, then one's own, filled); -/
def M0 (t : ℕ) : sProp 𝕄 :=
  if t < 2 then iprop(xt I k c ∗ ra (sg k 0 c) (bM k) 0 (hs k)) else
  if t < 3 then xt' I k c else iprop(xt I k c ∗ recvPay I k 0 c)
/-- the zones of the second and third stages; -/
def M1 (t : ℕ) : sProp 𝕄 :=
  if t < 5 then ra (sg k 1 c) (bM k) (hs k) (qs k) else if t < 6 then iprop(emp) else recvPay I k 1 c
def M2 (t : ℕ) : sProp 𝕄 :=
  if t < 8 then ra (sg k 2 c) (bM k) (zoneOff k 2) (qs k) else if t < 9 then iprop(emp) else recvPay I k 2 c
/-- the half of the accumulator kept; -/
def MA (t : ℕ) : sProp 𝕄 :=
  if t < 4 then ra c aM (H k c) (hs k) else
  if t < 5 then rp c aM (H k c) (hs k) (Ac I k c) else
  if t < 6 then rp c aM (Q k c) (qs k) (Ac I k c) else
  if t < 7 then iprop(rp c aM (Q k c) (qs k) (Ac I k c) ∗ rp c aM (Q k (sg k 1 c)) (qs k) (Ac I k c)) else
  if t < 8 then iprop(rp c aM (Q k c) (qs k) (Bc I k c) ∗ rp c aM (Q k (sg k 1 c)) (qs k) (Ac I k c)) else
  if t < 9 then rp c aM (Q k (sg k 1 c)) (qs k) (Ac I k c) else
    iprop(rp c aM (Q k c) (qs k) (Bc I k c) ∗ rp c aM (Q k (sg k 1 c)) (qs k) (Ac I k c))
/-- the residual and its slot; -/
def MR (t : ℕ) : sProp 𝕄 :=
  if t < 1 then iprop(rt I k c ∗ ra c lM (resOff k) (qs k)) else
  if t < 10 then rt' I k c else iprop(rt I k c ∗ rp c lM (resOff k) (qs k) (mv (resOff k) (Q k c) (Rc I c)))
/-- the result. -/
def MO (t : ℕ) : sProp 𝕄 :=
  if t < 11 then iprop(ra c oM (Q k c) (qs k) ∗ ra (sg k 1 c) oM (Q k c) (qs k) ∗ ra (sg k 0 c) oM (H k c) (hs k)) else
  if t < 12 then iprop(rp c oM (Q k c) (qs k) (Oc I k c) ∗ ra (sg k 1 c) oM (Q k c) (qs k) ∗ ra (sg k 0 c) oM (H k c) (hs k)) else
  if t < 13 then ra (sg k 0 c) oM (H k c) (hs k) else
  if t < 14 then iprop(rp c oM (H k c) (hs k) (O3 I k c) ∗ ra (sg k 0 c) oM (H k c) (hs k)) else
  if t < 15 then iprop(emp) else iprop(rp c oM (H k c) (hs k) (O3 I k c) ∗ rp c oM (H k (sg k 0 c)) (hs k) (O3 I k (sg k 0 c)))

def MEM (t : ℕ) : sProp 𝕄 := iprop(M0 I k c t ∗ M1 I k c t ∗ M2 I k c t ∗ MA I k c t ∗ MR I k c t ∗ MO I k c t)

/-- What a send takes: the source, lent; the destination on the partner; and what they become. -/
def Sends {s : Shape} (src dst : Memref sig .tc .vmem s .f32) (ph : Fin 5) (M M' : sProp 𝕄) : Prop :=
  M ⊢ iprop(∃ (q : PosShare TreeShare) (fs : Buf (Elt F) (src.view.loc (c : Thread nD τ))) (fd : Buf (Elt F) (dst.view.loc (sg k (jp ph) c : Thread nD τ))),
    ⌜((src.view.loc (c : Thread nD τ) ↦[src.view.set]{q} fs : sProp 𝕄) ⊢ sendPay I k ph c)
      ∧ ((dst.view.loc (sg k (jp ph) c : Thread nD τ) ↦[dst.view.set]{fullShare} (dst.view.write (Elt F) fd (src.view.read (Elt F) fs) Finset.univ) : sProp 𝕄)
          ⊢ recvPay I k ph (sg k (jp ph) c))⌝
    ∗ (src.view.loc (c : Thread nD τ) ↦[src.view.set]{q} fs) ∗ (dst.view.loc (sg k (jp ph) c : Thread nD τ) ↦[dst.view.set]{fullShare} fd) ∗ M')

theorem mem_send0 : Sends I k c (xsM k c) (zM k 0) 0 (MEM I k c 1) (MEM I k c 2) := by
  unfold Sends MEM
  simp only [M0, M1, M2, MA, MR, MO, Nat.reduceLT, reduceIte]
  iintro ⟨⟨Hx, Hz⟩, HM⟩
  ihave Hx := (show (xt I k c : sProp 𝕄) ⊢ iprop(((xsM k c).view.loc (c : Thread nD τ) ↦[(xsM k c).view.set]{tok k} I.x c) ∗ xt' I k c) from
    (pointsTo_split_subset (Finset.subset_univ _)).1) $$ Hx
  icases Hx with ⟨Hs, Hx⟩
  ihave Hz := (ra_open (F := F) (sg k 0 c) (bM k) 0 (hs k) rfl (zone_inb k 0)) $$ Hz
  icases Hz with ⟨%fd, Hd⟩
  iexists (tok k), (I.x c), fd
  isplitr
  · ipureintro
    refine ⟨.rfl, ?_⟩
    refine (rp_written (sg k 0 c) (bM k) 0 (hs k) rfl (zone_inb k 0) _ fd _ ?_)
    rw [xs_read, slab_mv]; show _ = slab _ _ (Xc I (sg k 0 (sg k 0 c))); rw [sg_sg]; rfl
  isplitl [Hs]; · iexact Hs
  isplitl [Hd]; · iexact Hd
  isplitl [Hx]; · iexact Hx
  iexact HM

theorem mem_wait0 : iprop(sendPay I k 0 c ∗ recvPay I k 0 c ∗ MEM I k c 2) ⊢ MEM I k c 3 := by
  unfold MEM
  simp only [M0, M1, M2, MA, MR, MO, Nat.reduceLT, reduceIte]
  iintro ⟨Hs, Hp, Hx, HM⟩
  isplitr [HM]
  · isplitr [Hp]
    · iapply (show iprop(sendPay I k 0 c ∗ xt' I k c) ⊢ (xt I k c : sProp 𝕄) from (pointsTo_split_subset (Finset.subset_univ _)).2)
      isplitl [Hs]; · iexact Hs
      iexact Hx
    · iexact Hp
  iexact HM

theorem mem_send1 : Sends I k c (sM k c) (zM k 1) 1 (MEM I k c 4) (MEM I k c 5) := by
  unfold Sends MEM
  simp only [M0, M1, M2, MA, MR, MO, Nat.reduceLT, reduceIte]
  iintro ⟨H0, Hz, H2, HA, HM⟩
  ihave HA := (rp_two' c aM (H k c) (qs k) (Q k c) (Q k (sg k 1 c)) (hs k) (Q_cases k c) (hs_eq k) (Ac I k c)) $$ HA
  icases HA with ⟨HA, HA'⟩
  ihave HA' := (rp_open c aM (Q k (sg k 1 c)) (qs k) (oS_eq k c) (oS_inb k c) (Ac I k c)) $$ HA'
  icases HA' with ⟨%fs, %hfs, Hs⟩
  ihave Hz := (ra_open (F := F) (sg k 1 c) (bM k) (hs k) (qs k) rfl (zone_inb k 1)) $$ Hz
  icases Hz with ⟨%fd, Hd⟩
  iexists fullShare, fs, fd
  isplitr
  · ipureintro
    refine ⟨rp_close c aM (Q k (sg k 1 c)) (qs k) (oS_eq k c) (oS_inb k c) (Ac I k c) fs hfs, ?_⟩
    refine (rp_written (sg k 1 c) (bM k) (hs k) (qs k) rfl (zone_inb k 1) _ fd _ ?_)
    rw [slab_mv]; show _ = slab _ _ (Ac I k (sg k 1 (sg k 1 c))); rw [sg_sg]; exact hfs
  isplitl [Hs]; · iexact Hs
  isplitl [Hd]; · iexact Hd
  isplitl [H0]; · iexact H0
  isplitr; · iempintro
  isplitl [H2]; · iexact H2
  isplitl [HA]; · iexact HA
  iexact HM

theorem mem_wait1 : iprop(sendPay I k 1 c ∗ recvPay I k 1 c ∗ MEM I k c 5) ⊢ MEM I k c 6 := by
  unfold MEM
  simp only [M0, M1, M2, MA, MR, MO, Nat.reduceLT, reduceIte]
  iintro ⟨Hs, Hp, H0, -, H2, HA, HM⟩
  ihave Hs := (show sendPay I k 1 c ⊢ rp c aM (Q k (sg k 1 c)) (qs k) (Ac I k c) from .rfl) $$ Hs
  isplitl [H0]; · iexact H0
  isplitl [Hp]; · iexact Hp
  isplitl [H2]; · iexact H2
  isplitr [HM]
  · isplitl [HA]; · iexact HA
    iexact Hs
  iexact HM

theorem mem_send2 : Sends I k c (qM k c) (zM k 2) 2 (MEM I k c 7) (MEM I k c 8) := by
  unfold Sends MEM
  simp only [M0, M1, M2, MA, MR, MO, Nat.reduceLT, reduceIte]
  iintro ⟨H0, H1, Hz, ⟨HA, HA'⟩, HM⟩
  ihave HA := (rp_open c aM (Q k c) (qs k) (oQ_eq k c) (oQ_inb k c) (Bc I k c)) $$ HA
  icases HA with ⟨%fs, %hfs, Hs⟩
  ihave Hz := (ra_open (F := F) (sg k 2 c) (bM k) (zoneOff k 2) (qs k) rfl (zone_inb k 2)) $$ Hz
  icases Hz with ⟨%fd, Hd⟩
  iexists fullShare, fs, fd
  isplitr
  · ipureintro
    refine ⟨rp_close c aM (Q k c) (qs k) (oQ_eq k c) (oQ_inb k c) (Bc I k c) fs hfs, ?_⟩
    refine (rp_written (sg k 2 c) (bM k) (zoneOff k 2) (qs k) rfl (zone_inb k 2) _ fd _ ?_)
    rw [slab_mv]; show _ = slab (Q k (sg k 2 c)) _ (Bc I k (sg k 2 (sg k 2 c))); rw [sg_sg, Q_sg2]; exact hfs
  isplitl [Hs]; · iexact Hs
  isplitl [Hd]; · iexact Hd
  isplitl [H0]; · iexact H0
  isplitl [H1]; · iexact H1
  isplitr; · iempintro
  isplitl [HA']; · iexact HA'
  iexact HM

theorem mem_wait2 : iprop(sendPay I k 2 c ∗ recvPay I k 2 c ∗ MEM I k c 8) ⊢ MEM I k c 9 := by
  unfold MEM
  simp only [M0, M1, M2, MA, MR, MO, Nat.reduceLT, reduceIte]
  iintro ⟨Hs, Hp, H0, H1, -, HA, HM⟩
  ihave Hs := (show sendPay I k 2 c ⊢ rp c aM (Q k c) (qs k) (Bc I k c) from .rfl) $$ Hs
  isplitl [H0]; · iexact H0
  isplitl [H1]; · iexact H1
  isplitl [Hp]; · iexact Hp
  isplitr [HM]
  · isplitl [Hs]; · iexact Hs
    iexact HA
  iexact HM

theorem mem_send3 : Sends I k c (oqM k c) (oqM k c) 3 (MEM I k c 11) (MEM I k c 12) := by
  unfold Sends MEM
  simp only [M0, M1, M2, MA, MR, MO, Nat.reduceLT, reduceIte]
  iintro ⟨H0, H1, H2, HA, HR, HO, Hz, Hw⟩
  ihave HO := (rp_open c oM (Q k c) (qs k) (oQ_eq k c) (oQ_inb k c) (Oc I k c)) $$ HO
  icases HO with ⟨%fs, %hfs, Hs⟩
  ihave Hz := (ra_open (F := F) (sg k 1 c) oM (Q k c) (qs k) (oQ_eq k c) (oQ_inb k c)) $$ Hz
  icases Hz with ⟨%fd, Hd⟩
  iexists fullShare, fs, fd
  isplitr
  · ipureintro
    refine ⟨rp_close c oM (Q k c) (qs k) (oQ_eq k c) (oQ_inb k c) (Oc I k c) fs hfs, ?_⟩
    have := rp_written (sg k 1 c) oM (Q k c) (qs k) (oQ_eq k c) (oQ_inb k c) (Oc I k c) fd _ hfs
    refine this.trans (Entails.of_eq ?_)
    show _ = rp (sg k 1 c) oM (Q k (sg k 1 (sg k 1 c))) (qs k) (Oc I k (sg k 1 (sg k 1 c)))
    rw [sg_sg]
  isplitl [Hs]; · iexact Hs
  isplitl [Hd]; · iexact Hd
  isplitl [H0]; · iexact H0
  isplitl [H1]; · iexact H1
  isplitl [H2]; · iexact H2
  isplitl [HA]; · iexact HA
  isplitl [HR]; · iexact HR
  iexact Hw

/-- The two finished quarters make the half. -/
theorem half_join : iprop(sendPay I k 3 c ∗ recvPay I k 3 c) ⊢ rp c oM (H k c) (hs k) (O3 I k c) := by
  have hq := Q_cases k c
  refine BI.Entails.trans ?_ (rp_two c oM (H k c) (qs k) (Q k c) (Q k (sg k 1 c)) (hs k) hq (hs_eq k) (O3 I k c))
  refine BIClass.sep_mono (rp_congr c oM (Q k c) (qs k) fun i h1 h2 => ?_) (rp_congr c oM (Q k (sg k 1 c)) (qs k) fun i h1 h2 => ?_)
  · unfold O3; rw [if_pos ⟨h1, h2⟩]
  · unfold O3; rw [if_neg (by omega)]

theorem mem_wait3 : iprop(sendPay I k 3 c ∗ recvPay I k 3 c ∗ MEM I k c 12) ⊢ MEM I k c 13 := by
  unfold MEM
  simp only [M0, M1, M2, MA, MR, MO, Nat.reduceLT, reduceIte]
  iintro ⟨Hs, Hp, H0, H1, H2, HA, HR, Hw⟩
  isplitl [H0]; · iexact H0
  isplitl [H1]; · iexact H1
  isplitl [H2]; · iexact H2
  isplitl [HA]; · iexact HA
  isplitl [HR]; · iexact HR
  isplitr [Hw]
  · iapply (half_join I k c)
    isplitl [Hs]; · iexact Hs
    iexact Hp
  iexact Hw

theorem mem_send4 : Sends I k c (okM k c) (okM k c) 4 (MEM I k c 13) (MEM I k c 14) := by
  unfold Sends MEM
  simp only [M0, M1, M2, MA, MR, MO, Nat.reduceLT, reduceIte]
  iintro ⟨H0, H1, H2, HA, HR, HO, Hz⟩
  ihave HO := (rp_open c oM (H k c) (hs k) (oK_eq k c) (oK_inb k c) (O3 I k c)) $$ HO
  icases HO with ⟨%fs, %hfs, Hs⟩
  ihave Hz := (ra_open (F := F) (sg k 0 c) oM (H k c) (hs k) (oK_eq k c) (oK_inb k c)) $$ Hz
  icases Hz with ⟨%fd, Hd⟩
  iexists fullShare, fs, fd
  isplitr
  · ipureintro
    refine ⟨rp_close c oM (H k c) (hs k) (oK_eq k c) (oK_inb k c) (O3 I k c) fs hfs, ?_⟩
    have := rp_written (sg k 0 c) oM (H k c) (hs k) (oK_eq k c) (oK_inb k c) (O3 I k c) fd _ hfs
    refine this.trans (Entails.of_eq ?_)
    show _ = rp (sg k 0 c) oM (H k (sg k 0 (sg k 0 c))) (hs k) (O3 I k (sg k 0 (sg k 0 c)))
    rw [sg_sg]
  isplitl [Hs]; · iexact Hs
  isplitl [Hd]; · iexact Hd
  isplitl [H0]; · iexact H0
  isplitl [H1]; · iexact H1
  isplitl [H2]; · iexact H2
  isplitl [HA]; · iexact HA
  isplitl [HR]; · iexact HR
  iempintro

theorem mem_wait4 : iprop(sendPay I k 4 c ∗ recvPay I k 4 c ∗ MEM I k c 14) ⊢ MEM I k c 15 := by
  unfold MEM
  simp only [M0, M1, M2, MA, MR, MO, Nat.reduceLT, reduceIte]
  iintro ⟨Hs, Hp, H0, H1, H2, HA, HR, -⟩
  ihave Hs := (show sendPay I k 4 c ⊢ rp c oM (H k c) (hs k) (O3 I k c) from .rfl) $$ Hs
  ihave Hp := (show recvPay I k 4 c ⊢ rp c oM (H k (sg k 0 c)) (hs k) (O3 I k (sg k 0 c)) from .rfl) $$ Hp
  isplitl [H0]; · iexact H0
  isplitl [H1]; · iexact H1
  isplitl [H2]; · iexact H2
  isplitl [HA]; · iexact HA
  isplitl [HR]; · iexact HR
  isplitl [Hs]; · iexact Hs
  iexact Hp

end Cert.KernelIdeal.Allreduce

end
-- ==== Proof.KI.Chunk.lean ====
/-
  One event of one chunk: what the device holds for the chunk at step `t`, and each event carrying it to step `t + 1`.
-/
module

public import proofs.«01_k».proof.Proof.KI.Mem

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop)

variable {F : FTy → Type} [FloatOps F]

local notation "𝕄" => MT nD τ sig Unit (Elt F) ℕ UU ℕ

/-! ## Loads and stores of bands -/

section Bands
variable {n : ℕ} (c : Dev nD) (m : Memref sig .tc .vmem ⟨2, ![n, 1024]⟩ .f32) (r h : ℕ) {off : Fin 2 → ℕ} (ho : off = ![r, 0])
  (inb : ∀ a, off a + (![h, 1024] : Fin 2 → ℕ) a ≤ (⟨2, ![n, 1024]⟩ : Shape).size a)
include ho

theorem wp_load_band {Kt : PUnit.{1} → sProp 𝕄} (X : Rows F) {hl : m.view.LoadsAt (Rect.unit (s := ⟨2, ![n, 1024]⟩) off ![h, 1024] inb).toLoadRect}
    {kk : ((⟨2, ![h, 1024]⟩ : Shape).Idx → Elt F .f32) → PG F PUnit} :
    rp c m r h X ⊢ iprop((rp c m r h X -∗ wpc c (kk (slab r h X)) Kt)
      -∗ wpc c (.op (.load m (Rect.unit (s := ⟨2, ![n, 1024]⟩) off ![h, 1024] inb).toLoadRect hl) kk) Kt) := by
  iintro H Hk
  ihave H := (rp_open c m r h ho inb X) $$ H
  icases H with ⟨%f, %hf, H⟩
  iapply (wp_load_rect 𝒱₀ (c : Thread nD τ) none Set.univ (m := m) (r := Rect.unit (s := ⟨2, ![n, 1024]⟩) off ![h, 1024] inb) (Finset.Subset.refl _)) $$ H
  iintro H
  have e : (m.access (Rect.unit (s := ⟨2, ![n, 1024]⟩) off ![h, 1024] inb)).read (Elt F) f = slab r h X := hf
  rw [e]
  iapply Hk
  iapply (rp_close c m r h ho inb X f hf)
  iexact H

theorem wp_load_drop {Kt : PUnit.{1} → sProp 𝕄} {hl : m.view.LoadsAt (Rect.unit (s := ⟨2, ![n, 1024]⟩) off ![h, 1024] inb).toLoadRect}
    {p : PG F PUnit} :
    ra c m r h ⊢ iprop((ra c m r h -∗ wpc c p Kt)
      -∗ wpc c (.op (.load m (Rect.unit (s := ⟨2, ![n, 1024]⟩) off ![h, 1024] inb).toLoadRect hl) fun _ => p) Kt) := by
  iintro H Hk
  ihave H := (ra_open c m r h ho inb) $$ H
  icases H with ⟨%f, H⟩
  iapply (wp_load_rect 𝒱₀ (c : Thread nD τ) none Set.univ (m := m) (r := Rect.unit (s := ⟨2, ![n, 1024]⟩) off ![h, 1024] inb) (Finset.Subset.refl _)) $$ H
  iintro H
  iapply Hk
  unfold ra
  iexists f
  rw [← set_rows m r h ho inb]
  iexact H

theorem wp_store_band {Kt : PUnit.{1} → sProp 𝕄} (X : Rows F) {w : (⟨2, ![h, 1024]⟩ : Shape).Idx → Elt F .f32} (hw : w = slab r h X)
    {hx : (m.access (Rect.unit (s := ⟨2, ![n, 1024]⟩) off ![h, 1024] inb)).Stores Finset.univ}
    {hm : (Finset.univ : Finset (Rect.unit (s := ⟨2, ![n, 1024]⟩) off ![h, 1024] inb).shape.Idx) = Finset.univ ∨ ∀ a, (Rect.unit (s := ⟨2, ![n, 1024]⟩) off ![h, 1024] inb).stride a = 1}
    {kk : PUnit.{1} → PG F PUnit} :
    ra c m r h ⊢ iprop((rp c m r h X -∗ wpc c (kk ⟨⟩) Kt)
      -∗ wpc c (.op (.store m (Rect.unit (s := ⟨2, ![n, 1024]⟩) off ![h, 1024] inb) w Finset.univ hx hm) kk) Kt) := by
  iintro H Hk
  ihave H := (ra_open c m r h ho inb) $$ H
  icases H with ⟨%f, H⟩
  iapply (wp_store 𝒱₀ (c : Thread nD τ) none Set.univ (m := m) (r := Rect.unit (s := ⟨2, ![n, 1024]⟩) off ![h, 1024] inb) (Mk := Finset.univ)
    (S := (m.view.slice (Rect.unit (s := ⟨2, ![n, 1024]⟩) off ![h, 1024] inb)).set) (w := w) (hx := hx) (hm := hm) (k := kk) (Finset.Subset.refl _)) $$ H
  iintro H
  iapply Hk
  iapply (rp_written c m r h ho inb X f w hw)
  iexact H
end Bands

/-! ## A chunk's state -/

variable (I : Inp F) (K : Dev nD × CI → ℕ) (k : Fin 6) (c : Dev nD)

/-- The step at which a phase's send happens; its wait is the next. -/
def tsend : Fin 5 → ℕ := ![1, 4, 7, 11, 13]

/-- A transfer's tokens and positions: before the send, between the send and the wait, after. -/
def gs (ph : Fin 5) (t : ℕ) : sProp 𝕄 :=
  if t < tsend ph + 1 then iprop(dutyTok ER (dCell c k (snd ph)) 0 0 ∗ dutyTok ER (dCell (sg k (jp ph) c) k (rcv ph)) 0 0
      ∗ atPos ER (dCell c k (snd ph)) 0 ∅ 0 ∗ atPos ER (dCell c k (rcv ph)) 0 ∅ 0 ∗ cred (tallyAt (dCell c k (rcv ph)) () (amtP k ph))) else
  if t < tsend ph + 2 then iprop(cred (tallyAt (dCell c k (snd ph)) () (amtP k ph))
      ∗ atPos ER (dCell c k (snd ph)) 0 ∅ 0 ∗ atPos ER (dCell c k (rcv ph)) 0 ∅ 0 ∗ cred (tallyAt (dCell c k (rcv ph)) () (amtP k ph))) else
    iprop(semVal (dCell c k (snd ph)) 0 ∗ semVal (dCell c k (rcv ph)) 0)
/-- The residual copy's. -/
def gr (t : ℕ) : sProp 𝕄 :=
  if t < 1 then iprop(dutyTok ER (dCell c k rsd) 0 0 ∗ atPos ER (dCell c k rsd) 0 ∅ 0) else
  if t < 10 then iprop(cred (tallyAt (dCell c k rsd) () (credQ k)) ∗ atPos ER (dCell c k rsd) 0 ∅ 0) else semVal (dCell c k rsd) 0

/-- A chunk at step `t`. -/
def CS (t : ℕ) : sProp 𝕄 := iprop(MEM I k c t ∗ gr k c t ∗ bigSep Finset.univ fun ph : Fin 5 => gs k c ph t)

omit [FloatOps F] in
theorem gs_same (t : ℕ) (S : Finset (Fin 5)) (h : ∀ ph ∈ S, t ≠ tsend ph ∧ t ≠ tsend ph + 1) :
    (bigSep S fun ph : Fin 5 => (gs k c ph t : sProp 𝕄)) = bigSep S fun ph : Fin 5 => gs k c ph (t + 1) := by
  refine bigSep_congr fun ph hph => ?_
  obtain ⟨h1, h2⟩ := h ph hph
  unfold gs
  rw [if_congr (show t < tsend ph + 1 ↔ t + 1 < tsend ph + 1 by omega) rfl rfl,
    if_congr (show t < tsend ph + 2 ↔ t + 1 < tsend ph + 2 by omega) rfl rfl]
omit [FloatOps F] in
theorem gr_same (t : ℕ) (h1 : t ≠ 0) (h2 : t ≠ 9) : (gr k c t : sProp 𝕄) = gr k c (t + 1) := by
  unfold gr
  rw [if_congr (show t < 1 ↔ t + 1 < 1 by omega) rfl rfl, if_congr (show t < 10 ↔ t + 1 < 10 by omega) rfl rfl]

omit [FloatOps F] in
theorem gs_at0 (ph : Fin 5) : (gs k c ph (tsend ph) : sProp 𝕄) = iprop(dutyTok ER (dCell c k (snd ph)) 0 0 ∗ dutyTok ER (dCell (sg k (jp ph) c) k (rcv ph)) 0 0
      ∗ atPos ER (dCell c k (snd ph)) 0 ∅ 0 ∗ atPos ER (dCell c k (rcv ph)) 0 ∅ 0 ∗ cred (tallyAt (dCell c k (rcv ph)) () (amtP k ph))) := by
  unfold gs; rw [if_pos (by omega)]
omit [FloatOps F] in
theorem gs_at1 (ph : Fin 5) : (gs k c ph (tsend ph + 1) : sProp 𝕄) = iprop(cred (tallyAt (dCell c k (snd ph)) () (amtP k ph))
      ∗ atPos ER (dCell c k (snd ph)) 0 ∅ 0 ∗ atPos ER (dCell c k (rcv ph)) 0 ∅ 0 ∗ cred (tallyAt (dCell c k (rcv ph)) () (amtP k ph))) := by
  unfold gs; rw [if_neg (by omega), if_pos (by omega)]
omit [FloatOps F] in
theorem gs_at2 (ph : Fin 5) : (gs k c ph (tsend ph + 2) : sProp 𝕄) = iprop(semVal (dCell c k (snd ph)) 0 ∗ semVal (dCell c k (rcv ph)) 0) := by
  unfold gs; rw [if_neg (by omega), if_neg (by omega)]

theorem tsend_other : ∀ ph, ∀ ph' ∈ Finset.univ.erase ph, (tsend ph ≠ tsend ph' ∧ tsend ph ≠ tsend ph' + 1)
    ∧ (tsend ph + 1 ≠ tsend ph' ∧ tsend ph + 1 ≠ tsend ph' + 1) := by decide
theorem tsend_gr : ∀ ph, (tsend ph ≠ 0 ∧ tsend ph ≠ 9) ∧ (tsend ph + 1 ≠ 0 ∧ tsend ph + 1 ≠ 9) := by decide

variable {kk : PUnit.{1} → PG F PUnit}

omit [FloatOps F] in
theorem gs_split0 (ph : Fin 5) : (bigSep Finset.univ fun ph' : Fin 5 => (gs k c ph' (tsend ph) : sProp 𝕄))
    = iprop(gs k c ph (tsend ph) ∗ bigSep (Finset.univ.erase ph) fun ph' : Fin 5 => gs k c ph' (tsend ph + 1)) := by
  rw [← gs_same k c (tsend ph) _ fun ph' h => (tsend_other ph ph' h).1]
  exact bigSep_erase (Finset.mem_univ ph)
omit [FloatOps F] in
theorem gs_split1 (ph : Fin 5) : (bigSep Finset.univ fun ph' : Fin 5 => (gs k c ph' (tsend ph + 1) : sProp 𝕄))
    = iprop(gs k c ph (tsend ph + 1) ∗ bigSep (Finset.univ.erase ph) fun ph' : Fin 5 => gs k c ph' (tsend ph + 1)) :=
  bigSep_erase (Finset.mem_univ ph)
omit [FloatOps F] in
theorem gs_split2 (ph : Fin 5) : (bigSep Finset.univ fun ph' : Fin 5 => (gs k c ph' (tsend ph + 2) : sProp 𝕄))
    = iprop(gs k c ph (tsend ph + 2) ∗ bigSep (Finset.univ.erase ph) fun ph' : Fin 5 => gs k c ph' (tsend ph + 1)) := by
  rw [gs_same k c (tsend ph + 1) _ fun ph' h => (tsend_other ph ph' h).2]
  exact bigSep_erase (Finset.mem_univ ph)

theorem cs_send {Kt : PUnit.{1} → sProp 𝕄} (ph : Fin 5) {s : Shape} {src dst : Memref sig .tc .vmem s .f32}
    (h : Sends I k c src dst ph (MEM I k c (tsend ph)) (MEM I k c (tsend ph + 1))) (hamt : dst.view.dmaCredit = amtP k ph)
    (hd : dst.view.ref.isScScratch = false) (hs' : src.view.WordExact) (l : List (Fin 5 × Fin 6)) :
    iprop(records I K ∗ CS I k c (tsend ph) ∗ ow c ((ph, k) :: l))
      ⊢ iprop(((CS I k c (tsend ph + 1) ∗ ow c l) -∗ wpc c (kk ⟨⟩) Kt) -∗ wpc c ((sendOp src dst ph k c hd hs').bind kk) Kt) := by
  unfold Sends at h
  unfold CS
  rw [gs_split0, gs_split1, gs_at0, gs_at1, gr_same k c (tsend ph) (tsend_gr ph).1.1 (tsend_gr ph).1.2]
  iintro ⟨#HR, ⟨HM, Hr, ⟨Ht1, Ht2, Hg⟩, Hrest⟩, HO⟩ Hk
  ihave HM := h $$ HM
  icases HM with ⟨%q, %fs, %fd, %hp, Hs, Hd, HM⟩
  iapply (wp_xfer_at I K c ph k (sdev ph k c) (sdev_eq ph k c) hamt fs hp.1 fd hp.2 l) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iintro ⟨Hc, HO⟩
  iapply Hk
  isplitr [HO]
  · isplitl [HM]; · iexact HM
    isplitl [Hr]; · iexact Hr
    isplitr [Hrest]
    · isplitl [Hc]; · iexact Hc
      iexact Hg
    iexact Hrest
  iexact HO

theorem cs_wait {Kt : PUnit.{1} → sProp 𝕄} (ph : Fin 5) {s : Shape} {src dst : Memref sig .tc .vmem s .f32}
    (h : iprop(sendPay I k ph c ∗ recvPay I k ph c ∗ MEM I k c (tsend ph + 1)) ⊢ MEM I k c (tsend ph + 2))
    (hamt : dst.view.dmaCredit = amtP k ph) (hamt' : src.view.dmaCredit = amtP k ph)
    (hs' : src.view.WordExact) (l : List (Fin 5 × Fin 6)) (hl : ∀ x ∈ l, seqNo ph k < seqNo x.1 x.2) :
    iprop(records I K ∗ levAts L lv ∗ CS I k c (tsend ph + 1) ∗ ow c l)
      ⊢ iprop(((CS I k c (tsend ph + 2) ∗ ow c l) -∗ wpc c (kk ⟨⟩) Kt) -∗ wpc c ((waitOp src dst ph k hs').bind kk) Kt) := by
  unfold CS
  rw [gs_split1, gs_split2, gs_at1, gs_at2, gr_same k c (tsend ph + 1) (tsend_gr ph).2.1 (tsend_gr ph).2.2]
  iintro ⟨#HR, #Hlev, ⟨HM, Hr, ⟨Hc1, Ha1, Ha2, Hc2⟩, Hrest⟩, HO⟩ Hk
  unfold waitOp
  simp only [Prog.lift, Prog.bind_op, Prog.bind_ret]
  iapply (wp_await I K c k (snd ph) l (fun x _ => by show 0 < _; omega) (src := dst) (dst := src) hamt') $$ [HO Hc1 Ha1]
  · isplitr; · iexact HR
    isplitr; · iexact Hlev
    isplitl [HO]; · iexact HO
    isplitl [Hc1]; · iexact Hc1
    iexact Ha1
  iintro ⟨HO, Hz1, Hp1⟩
  ihave Hp1 := (show pay I k (snd ph) c ⊢ sendPay I k ph c from .rfl) $$ Hp1
  iapply (wp_await I K c k (rcv ph) l (fun x hx => Nat.add_lt_add_left (hl x hx) 2) (src := src) (dst := dst) hamt) $$ [HO Hc2 Ha2]
  · isplitr; · iexact HR
    isplitr; · iexact Hlev
    isplitl [HO]; · iexact HO
    isplitl [Hc2]; · iexact Hc2
    iexact Ha2
  iintro ⟨HO, Hz2, Hp2⟩
  ihave Hp2 := (show pay I k (rcv ph) c ⊢ recvPay I k ph c from .rfl) $$ Hp2
  iapply Hk
  isplitr [HO]
  · isplitl [HM Hp1 Hp2]
    · iapply h
      isplitl [Hp1]; · iexact Hp1
      isplitl [Hp2]; · iexact Hp2
      iexact HM
    isplitl [Hr]; · iexact Hr
    isplitr [Hrest]
    · isplitl [Hz1]; · iexact Hz1
      iexact Hz2
    iexact Hrest
  iexact HO

/-! The two ends of the residual's copy. -/

theorem all0 : ∀ ph ∈ (Finset.univ : Finset (Fin 5)), 0 ≠ tsend ph ∧ 0 ≠ tsend ph + 1 := by decide
theorem all3 : ∀ ph ∈ (Finset.univ : Finset (Fin 5)), 3 ≠ tsend ph ∧ 3 ≠ tsend ph + 1 := by decide
theorem all6 : ∀ ph ∈ (Finset.univ : Finset (Fin 5)), 6 ≠ tsend ph ∧ 6 ≠ tsend ph + 1 := by decide
theorem all9 : ∀ ph ∈ (Finset.univ : Finset (Fin 5)), 9 ≠ tsend ph ∧ 9 ≠ tsend ph + 1 := by decide
theorem all10 : ∀ ph ∈ (Finset.univ : Finset (Fin 5)), 10 ≠ tsend ph ∧ 10 ≠ tsend ph + 1 := by decide

theorem cs_res {Kt : PUnit.{1} → sProp 𝕄} :
    iprop(records I K ∗ CS I k c 0) ⊢ iprop((CS I k c 1 -∗ wpc c (kk ⟨⟩) Kt) -∗ wpc c ((resP k c).bind kk) Kt) := by
  unfold CS
  rw [gs_same k c 0 _ all0]
  unfold MEM
  simp only [M0, M1, M2, MA, MR, MO, gr, Nat.reduceLT, reduceIte, Nat.reduceAdd]
  iintro ⟨#HR, ⟨H0, H1, H2, HA, ⟨Hr, Hl⟩, HO⟩, ⟨Ht, Ha⟩, Hg⟩ Hk
  ihave Hr := (show (rt I k c : sProp 𝕄) ⊢ iprop(((rqM k c).view.loc (c : Thread nD τ) ↦[(rqM k c).view.set]{tok k} I.r c) ∗ rt' I k c) from
    (pointsTo_split_subset (Finset.subset_univ _)).1) $$ Hr
  icases Hr with ⟨Hs, Hr⟩
  ihave Hl := (ra_open (F := F) c lM (resOff k) (qs k) rfl (slot_inb k)) $$ Hl
  icases Hl with ⟨%fd, Hd⟩
  unfold resP
  simp only [Prog.lift, Prog.bind_op, Prog.bind_ret]
  iapply (wp_rescopy I K c k (src := rqM k c) (dst := lqM k) rfl (q := tok k) (I.r c) fd (by
      refine BIClass.sep_mono ?_ .rfl
      refine rp_written c lM (resOff k) (qs k) rfl (slot_inb k) _ fd _ ?_
      rw [r_read, slab_mv])) $$ [Hs Hd Ht]
  · isplitr; · iexact HR
    isplitl [Hs]; · iexact Hs
    isplitl [Hd]; · iexact Hd
    iexact Ht
  iintro Hc
  iapply Hk
  isplitr [Hc Ha Hg]
  · isplitl [H0]; · iexact H0
    isplitl [H1]; · iexact H1
    isplitl [H2]; · iexact H2
    isplitl [HA]; · iexact HA
    isplitl [Hr]; · iexact Hr
    iexact HO
  isplitr [Hg]
  · isplitl [Hc]; · iexact Hc
    iexact Ha
  iexact Hg

theorem cs_resWait {Kt : PUnit.{1} → sProp 𝕄} (l : List (Fin 5 × Fin 6)) :
    iprop(records I K ∗ levAts L lv ∗ CS I k c 9 ∗ ow c l)
      ⊢ iprop(((CS I k c 10 ∗ ow c l) -∗ wpc c (kk ⟨⟩) Kt) -∗ wpc c ((resWaitP k c).bind kk) Kt) := by
  unfold CS
  rw [gs_same k c 9 _ all9]
  unfold MEM
  simp only [M0, M1, M2, MA, MR, MO, gr, Nat.reduceLT, reduceIte, Nat.reduceAdd]
  iintro ⟨#HR, #Hlev, ⟨⟨H0, H1, H2, HA, Hr, HM⟩, ⟨Hc, Ha⟩, Hg⟩, HO⟩ Hk
  unfold resWaitP
  simp only [Prog.lift, Prog.bind_op, Prog.bind_ret]
  iapply (wp_await I K c k rsd l (fun x _ => by show 0 < _; omega) (src := rqM k c) (dst := lqM k) rfl) $$ [HO Hc Ha]
  · isplitr; · iexact HR
    isplitr; · iexact Hlev
    isplitl [HO]; · iexact HO
    isplitl [Hc]; · iexact Hc
    iexact Ha
  iintro ⟨HO, Hz, Hp⟩
  ihave Hp := (show pay I k rsd c ⊢ iprop(rp c lM (resOff k) (qs k) (mv (resOff k) (Q k c) (Rc I c)) ∗ ((rqM k c).view.loc (c : Thread nD τ) ↦[(rqM k c).view.set]{tok k} I.r c)) from .rfl) $$ Hp
  icases Hp with ⟨Hl, Hs⟩
  iapply Hk
  isplitr [HO]
  · isplitr [Hz Hg]
    · isplitl [H0]; · iexact H0
      isplitl [H1]; · iexact H1
      isplitl [H2]; · iexact H2
      isplitl [HA]; · iexact HA
      isplitr [HM]
      · isplitr [Hl]
        · iapply (show iprop(((rqM k c).view.loc (c : Thread nD τ) ↦[(rqM k c).view.set]{tok k} I.r c) ∗ rt' I k c) ⊢ (rt I k c : sProp 𝕄) from
            (pointsTo_split_subset (Finset.subset_univ _)).2)
          isplitl [Hs]; · iexact Hs
          iexact Hr
        · iexact Hl
      iexact HM
    isplitl [Hz]; · iexact Hz
    iexact Hg
  iexact HO

/-! The three computations. -/

theorem cs_comp0 {Kt : PUnit.{1} → sProp 𝕄} :
    CS I k c 3 ⊢ iprop((CS I k c 4 -∗ wpc c (kk ⟨⟩) Kt) -∗ wpc c ((comp0P k c).bind kk) Kt) := by
  unfold CS
  rw [gs_same k c 3 _ all3, gr_same k c 3 (by decide) (by decide)]
  unfold MEM
  simp only [M0, M1, M2, MA, MR, MO, Nat.reduceLT, reduceIte, Nat.reduceAdd]
  iintro ⟨⟨⟨Hx, Hz⟩, H1, H2, HA, HM⟩, Hg⟩ Hk
  unfold comp0P
  simp only [Prog.lift, Prog.bind_op, Prog.bind_ret]
  unfold xt
  iapply (wp_load_rect 𝒱₀ (c : Thread nD τ) none Set.univ (m := xM) (r := rXk k c) (Finset.subset_univ _)) $$ Hx
  iintro Hx
  ihave Hz := (show recvPay I k 0 c ⊢ rp c (bM k) 0 (hs k) (mv 0 (H k c) (Xc I (sg k 0 c))) from .rfl) $$ Hz
  iapply (wp_load_band c (bM k) 0 (hs k) rfl (zone_inb k 0) (mv 0 (H k c) (Xc I (sg k 0 c)))) $$ Hz
  iintro Hz
  iapply (wp_load_drop c aM (H k c) (hs k) (oA_eq k c) (oA_inb k c)) $$ HA
  iintro HA
  iapply (wp_store_band c aM (H k c) (hs k) (oA_eq k c) (oA_inb k c) (Ac I k c) (pay0_eq I k c _ (slab_mv _ _ _ _))) $$ HA
  iintro HA
  ihave Hz := (show rp c (bM k) 0 (hs k) (mv 0 (H k c) (Xc I (sg k 0 c))) ⊢ recvPay I k 0 c from .rfl) $$ Hz
  iapply Hk
  isplitr [Hg]
  · isplitl [Hx Hz]
    · isplitl [Hx]; · iexact Hx
      iexact Hz
    isplitl [H1]; · iexact H1
    isplitl [H2]; · iexact H2
    isplitl [HA]; · iexact HA
    iexact HM
  iexact Hg

theorem cs_comp1 {Kt : PUnit.{1} → sProp 𝕄} :
    CS I k c 6 ⊢ iprop((CS I k c 7 -∗ wpc c (kk ⟨⟩) Kt) -∗ wpc c ((comp1P k c).bind kk) Kt) := by
  unfold CS
  rw [gs_same k c 6 _ all6, gr_same k c 6 (by decide) (by decide)]
  unfold MEM
  simp only [M0, M1, M2, MA, MR, MO, Nat.reduceLT, reduceIte, Nat.reduceAdd]
  iintro ⟨⟨H0, Hz, H2, ⟨HA, HA'⟩, HM⟩, Hg⟩ Hk
  unfold comp1P
  simp only [Prog.lift, Prog.bind_op, Prog.bind_ret]
  iapply (wp_load_band c aM (Q k c) (qs k) (oQl_eq k c) (oQl_inb k c) (Ac I k c)) $$ HA
  iintro HA
  ihave Hz := (show recvPay I k 1 c ⊢ rp c (bM k) (hs k) (qs k) (mv (hs k) (Q k c) (Ac I k (sg k 1 c))) from .rfl) $$ Hz
  iapply (wp_load_band c (bM k) (hs k) (qs k) rfl (zone_inb k 1) (mv (hs k) (Q k c) (Ac I k (sg k 1 c)))) $$ Hz
  iintro Hz
  ihave HA := (rp_ra c aM (Q k c) (qs k) (Ac I k c)) $$ HA
  iapply (wp_load_drop c aM (Q k c) (qs k) (oQl_eq k c) (oQl_inb k c)) $$ HA
  iintro HA
  iapply (wp_store_band c aM (Q k c) (qs k) (oQl_eq k c) (oQl_inb k c) (Bc I k c) (by rw [slab_mv]; exact pay1_eq I k c)) $$ HA
  iintro HA
  ihave Hz := (show rp c (bM k) (hs k) (qs k) (mv (hs k) (Q k c) (Ac I k (sg k 1 c))) ⊢ recvPay I k 1 c from .rfl) $$ Hz
  iapply Hk
  isplitr [Hg]
  · isplitl [H0]; · iexact H0
    isplitl [Hz]; · iexact Hz
    isplitl [H2]; · iexact H2
    isplitl [HA HA']
    · isplitl [HA]; · iexact HA
      iexact HA'
    iexact HM
  iexact Hg

/-- The scale, as staged. -/
def gPts : sProp 𝕄 := iprop((c : Thread nD τ).loc cc0_stg1_0 ↦[Finset.univ]{fullShare} I.g c)

theorem cs_comp2 {Kt : PUnit.{1} → sProp 𝕄} :
    iprop(CS I k c 10 ∗ gPts I c) ⊢ iprop(((CS I k c 11 ∗ gPts I c) -∗ wpc c (kk ⟨⟩) Kt) -∗ wpc c ((comp2P k c).bind kk) Kt) := by
  unfold CS
  rw [gs_same k c 10 _ all10, gr_same k c 10 (by decide) (by decide)]
  unfold MEM
  simp only [M0, M1, M2, MA, MR, MO, Nat.reduceLT, reduceIte, Nat.reduceAdd]
  iintro ⟨⟨⟨H0, H1, Hz, ⟨HA, HA'⟩, ⟨Hr, Hl⟩, HO, HO'⟩, Hg⟩, HG⟩ Hk
  unfold comp2P
  simp only [Prog.lift, Prog.bind_op, Prog.bind_ret]
  iapply (wp_load_band c aM (Q k c) (qs k) (oQl_eq k c) (oQl_inb k c) (Bc I k c)) $$ HA
  iintro HA
  ihave Hz := (show recvPay I k 2 c ⊢ rp c (bM k) (zoneOff k 2) (qs k) (mv (zoneOff k 2) (Q k c) (Bc I k (sg k 2 c))) from .rfl) $$ Hz
  iapply (wp_load_band c (bM k) (zoneOff k 2) (qs k) rfl (zone_inb k 2) (mv (zoneOff k 2) (Q k c) (Bc I k (sg k 2 c)))) $$ Hz
  iintro Hz
  iapply (wp_load_band c lM (resOff k) (qs k) rfl (slot_inb k) (mv (resOff k) (Q k c) (Rc I c))) $$ Hl
  iintro Hl
  unfold gPts
  iapply (wp_load 𝒱₀ (c : Thread nD τ) none Set.univ (m := gM) (Finset.subset_univ _)) $$ HG
  iintro HG
  rw [show gM.view.readAt (Elt F) (Rect.unit (s := S1024) ![0] S1024.size inb_S1024_S1024_0).toLoadRect (I.g c) = I.g c from
    Memref.readAt_unit_zero (Elt F) cc0_stg1_0 (funext fun a => by fin_cases a; rfl) _ _]
  iapply (wp_load_drop c oM (Q k c) (qs k) (oQl_eq k c) (oQl_inb k c)) $$ HO
  iintro HO
  iapply (wp_store_band c oM (Q k c) (qs k) (oQl_eq k c) (oQl_inb k c) (Oc I k c) (by rw [slab_mv, slab_mv]; exact pay2_eq I k c)) $$ HO
  iintro HO
  ihave Hz := (show rp c (bM k) (zoneOff k 2) (qs k) (mv (zoneOff k 2) (Q k c) (Bc I k (sg k 2 c))) ⊢ recvPay I k 2 c from .rfl) $$ Hz
  iapply Hk
  isplitr [HG]
  · isplitr [Hg]
    · isplitl [H0]; · iexact H0
      isplitl [H1]; · iexact H1
      isplitl [Hz]; · iexact Hz
      isplitl [HA HA']
      · isplitl [HA]; · iexact HA
        iexact HA'
      isplitl [Hr Hl]
      · isplitl [Hr]; · iexact Hr
        iexact Hl
      isplitl [HO]; · iexact HO
      iexact HO'
    iexact Hg
  iexact HG

end Cert.KernelIdeal.Allreduce

end
-- ==== Proof.KI.Run.lean ====
/-
  The events in the program's order: a table says which step each chunk is at and which transfers are still to be sent, and the
  run follows the table.
-/
module

public import proofs.«01_k».proof.Proof.KI.Chunk

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop)

variable {F : FTy → Type} [FloatOps F]

local notation "𝕄" => MT nD τ sig Unit (Elt F) ℕ UU ℕ

/-! ## The sends and waits of every phase -/

section Phases
variable (I : Inp F) (K : Dev nD × CI → ℕ) (k : Fin 6) (c : Dev nD) {kk : PUnit.{1} → PG F PUnit}

theorem credS : ∀ (k : Fin 6) (c : Dev nD), (xsM k c).view.dmaCredit = credH k ∧ (sM k c).view.dmaCredit = credQ k ∧ (qM k c).view.dmaCredit = credQ k
    ∧ (oqM k c).view.dmaCredit = credQ k ∧ (okM k c).view.dmaCredit = credH k ∧ (zM k 2).view.dmaCredit = credQ k :=
  fun k c => ⟨rfl, rfl, rfl, rfl, rfl, rfl⟩

theorem ev_send {Kt : PUnit.{1} → sProp 𝕄} (ph : Fin 5) (l : List (Fin 5 × Fin 6)) :
    iprop(records I K ∗ CS I k c (tsend ph) ∗ ow c ((ph, k) :: l))
      ⊢ iprop(((CS I k c (tsend ph + 1) ∗ ow c l) -∗ wpc c (kk ⟨⟩) Kt) -∗ wpc c ((sendP ph k c).bind kk) Kt) := by
  obtain ⟨h0, h1, h2, h3, h4, h5⟩ := credS k c
  fin_cases ph
  · exact cs_send I K k c 0 (mem_send0 I k c) rfl _ _ l
  · exact cs_send I K k c 1 (mem_send1 I k c) rfl _ _ l
  · exact cs_send I K k c 2 (mem_send2 I k c) h5 _ _ l
  · exact cs_send I K k c 3 (mem_send3 I k c) h3 _ _ l
  · exact cs_send I K k c 4 (mem_send4 I k c) h4 _ _ l

theorem ev_wait {Kt : PUnit.{1} → sProp 𝕄} (ph : Fin 5) (l : List (Fin 5 × Fin 6)) (hl : ∀ x ∈ l, seqNo ph k < seqNo x.1 x.2) :
    iprop(records I K ∗ levAts L lv ∗ CS I k c (tsend ph + 1) ∗ ow c l)
      ⊢ iprop(((CS I k c (tsend ph + 2) ∗ ow c l) -∗ wpc c (kk ⟨⟩) Kt) -∗ wpc c ((waitP ph k c).bind kk) Kt) := by
  obtain ⟨h0, h1, h2, h3, h4, h5⟩ := credS k c
  fin_cases ph
  · exact cs_wait I K k c 0 (mem_wait0 I k c) rfl h0 _ l hl
  · exact cs_wait I K k c 1 (mem_wait1 I k c) rfl h1 _ l hl
  · exact cs_wait I K k c 2 (mem_wait2 I k c) h5 h2 _ l hl
  · exact cs_wait I K k c 3 (mem_wait3 I k c) h3 h3 _ l hl
  · exact cs_wait I K k c 4 (mem_wait4 I k c) h4 h4 _ l hl
end Phases

/-! ## The table -/

/-- The chunk an event is of. -/
def Ev.ch : Ev → Fin 6
  | .res k => k | .send _ k => k | .wait _ k => k | .comp0 k => k | .comp1 k => k | .resWait k => k | .comp2 k => k

/-- The step an event takes its chunk from. -/
def Ev.at : Ev → ℕ
  | .res _ => 0 | .send ph _ => tsend ph | .wait ph _ => tsend ph + 1 | .comp0 _ => 3 | .comp1 _ => 6 | .resWait _ => 9 | .comp2 _ => 10

/-- The transfers still to be sent after an event, or that it cannot happen here. -/
def Ev.left (l : List (Fin 5 × Fin 6)) : Ev → Option (List (Fin 5 × Fin 6))
  | .send ph k => match l with | x :: l' => if x = (ph, k) then some l' else none | [] => none
  | .wait ph k => if ∀ x ∈ l, seqNo ph k < seqNo x.1 x.2 then some l else none
  | _ => some l

variable (I : Inp F) (K : Dev nD × CI → ℕ) (c : Dev nD)

/-- One event, its chunk alone. -/
theorem ev_one {Kt : PUnit.{1} → sProp 𝕄} {kk : PUnit.{1} → PG F PUnit} (e : Ev) (l l' : List (Fin 5 × Fin 6)) (h : e.left l = some l') :
    iprop(records I K ∗ levAts L lv ∗ CS I e.ch c e.at ∗ ow c l ∗ gPts I c)
      ⊢ iprop(((CS I e.ch c (e.at + 1) ∗ ow c l' ∗ gPts I c) -∗ wpc c (kk ⟨⟩) Kt) -∗ wpc c ((evP c e).bind kk) Kt) := by
  iintro ⟨#HR, #Hlev, HC, HO, HG⟩ Hk
  cases e with
  | res k =>
    obtain rfl : l = l' := Option.some.inj h
    iapply (cs_res I K k c) $$ [HC]
    · isplitr; · iexact HR
      iexact HC
    iintro HC; iapply Hk
    isplitl [HC]; · iexact HC
    isplitl [HO]; · iexact HO
    iexact HG
  | send ph k =>
    obtain rfl : l = (ph, k) :: l' := by
      unfold Ev.left at h
      cases l with
      | nil => exact absurd h (by simp)
      | cons x l₁ =>
        by_cases hx : x = (ph, k)
        · simp only [hx, if_true, Option.some.injEq] at h; rw [hx, h]
        · simp only [hx, if_false] at h; exact absurd h (by simp)
    iapply (ev_send I K k c ph l') $$ [HC HO]
    · isplitr; · iexact HR
      isplitl [HC]; · iexact HC
      iexact HO
    iintro ⟨HC, HO⟩; iapply Hk
    isplitl [HC]; · iexact HC
    isplitl [HO]; · iexact HO
    iexact HG
  | wait ph k =>
    unfold Ev.left at h
    by_cases hl : ∀ x ∈ l, seqNo ph k < seqNo x.1 x.2
    · simp only [if_pos hl, Option.some.injEq] at h
      subst h
      iapply (ev_wait I K k c ph l hl) $$ [HC HO]
      · isplitr; · iexact HR
        isplitr; · iexact Hlev
        isplitl [HC]; · iexact HC
        iexact HO
      iintro ⟨HC, HO⟩; iapply Hk
      isplitl [HC]; · iexact HC
      isplitl [HO]; · iexact HO
      iexact HG
    · simp only [if_neg hl] at h; exact absurd h (by simp)
  | comp0 k =>
    obtain rfl : l = l' := Option.some.inj h
    iapply (cs_comp0 I k c) $$ [HC]
    · iexact HC
    iintro HC; iapply Hk
    isplitl [HC]; · iexact HC
    isplitl [HO]; · iexact HO
    iexact HG
  | comp1 k =>
    obtain rfl : l = l' := Option.some.inj h
    iapply (cs_comp1 I k c) $$ [HC]
    · iexact HC
    iintro HC; iapply Hk
    isplitl [HC]; · iexact HC
    isplitl [HO]; · iexact HO
    iexact HG
  | resWait k =>
    obtain rfl : l = l' := Option.some.inj h
    iapply (cs_resWait I K k c l) $$ [HC HO]
    · isplitr; · iexact HR
      isplitr; · iexact Hlev
      isplitl [HC]; · iexact HC
      iexact HO
    iintro ⟨HC, HO⟩; iapply Hk
    isplitl [HC]; · iexact HC
    isplitl [HO]; · iexact HO
    iexact HG
  | comp2 k =>
    obtain rfl : l = l' := Option.some.inj h
    iapply (cs_comp2 I k c) $$ [HC HG]
    · isplitl [HC]; · iexact HC
      iexact HG
    iintro ⟨HC, HG⟩; iapply Hk
    isplitl [HC]; · iexact HC
    isplitl [HO]; · iexact HO
    iexact HG

/-- The steps the chunks are at, and the transfers still to be sent. -/
abbrev Tab : Type := List ℕ × List (Fin 5 × Fin 6)

/-- An event, in the table. -/
def step (e : Ev) (s : Tab) : Option Tab :=
  if s.1.getD e.ch 0 = e.at ∧ e.ch.val < s.1.length then (e.left s.2).map fun l => (s.1.set e.ch (e.at + 1), l) else none

def steps : List Ev → Tab → Option Tab
  | [], s => some s
  | e :: es, s => (step e s).bind (steps es)

/-- All chunks, at the table's steps. -/
def GSt (s : Tab) : sProp 𝕄 := iprop(ow c s.2 ∗ gPts I c ∗ bigSep Finset.univ fun k : Fin 6 => CS I k c (s.1.getD k.val 0))

theorem erase6 (Φ : Fin 6 → sProp 𝕄) (k : Fin 6) :
    (bigSep Finset.univ Φ : sProp 𝕄) = iprop(Φ k ∗ bigSep (Finset.univ.erase k) Φ) := bigSep_erase (Finset.mem_univ k)

theorem run_step {Kt : PUnit.{1} → sProp 𝕄} {kk : PUnit.{1} → PG F PUnit} (e : Ev) (s s' : Tab) (h : step e s = some s') :
    iprop(records I K ∗ levAts L lv ∗ GSt I c s)
      ⊢ iprop((GSt I c s' -∗ wpc c (kk ⟨⟩) Kt) -∗ wpc c ((evP c e).bind kk) Kt) := by
  unfold step at h
  by_cases hs : s.1.getD e.ch 0 = e.at ∧ e.ch.val < s.1.length
  swap
  · rw [if_neg hs] at h; exact absurd h (by simp)
  rw [if_pos hs] at h
  obtain ⟨l', hl, rfl⟩ := Option.map_eq_some_iff.mp h
  unfold GSt
  rw [erase6 (fun k : Fin 6 => (CS I k c (s.1.getD k.val 0) : sProp 𝕄)) e.ch,
    erase6 (fun k : Fin 6 => (CS I k c ((s.1.set e.ch (e.at + 1)).getD k.val 0) : sProp 𝕄)) e.ch]
  rw [show (bigSep (Finset.univ.erase e.ch) fun k : Fin 6 => (CS I k c ((s.1.set e.ch (e.at + 1)).getD k.val 0) : sProp 𝕄))
      = bigSep (Finset.univ.erase e.ch) fun k : Fin 6 => CS I k c (s.1.getD k.val 0) from
    bigSep_congr fun k hk => by
      rw [List.getD_eq_getElem?_getD, List.getD_eq_getElem?_getD, List.getElem?_set_ne fun h => (Finset.mem_erase.mp hk).1 (Fin.ext h.symm)]]
  rw [show (s.1.set e.ch (e.at + 1)).getD e.ch.val 0 = e.at + 1 from by
    rw [List.getD_eq_getElem?_getD, List.getElem?_set_self hs.2]; rfl]
  rw [hs.1]
  iintro ⟨#HR, #Hlev, HO, HG, HC, Hrest⟩ Hk
  iapply (ev_one I K c e s.2 l' hl) $$ [HC HO HG]
  · isplitr; · iexact HR
    isplitr; · iexact Hlev
    isplitl [HC]; · iexact HC
    isplitl [HO]; · iexact HO
    iexact HG
  iintro ⟨HC, HO, HG⟩
  iapply Hk
  isplitl [HO]; · iexact HO
  isplitl [HG]; · iexact HG
  isplitl [HC]; · iexact HC
  iexact Hrest

theorem run_steps {Kt : PUnit.{1} → sProp 𝕄} (es : List Ev) : ∀ (s s' : Tab), steps es s = some s' →
    iprop(records I K ∗ levAts L lv ∗ GSt I c s) ⊢ iprop((GSt I c s' -∗ Kt ⟨⟩) -∗ wpc c (seqP c es) Kt) := by
  induction es with
  | nil =>
    intro s s' h
    obtain rfl : s = s' := Option.some.inj h
    iintro ⟨-, -, H⟩ Hk
    unfold seqP wpc
    rw [wp_ret]
    imodintro
    iapply Hk; iexact H
  | cons e es ih =>
    intro s s' h
    obtain ⟨s₁, h1, h2⟩ := Option.bind_eq_some_iff.mp h
    iintro ⟨#HR, #Hlev, H⟩ Hk
    unfold seqP
    iapply (run_step I K c e s s₁ h1) $$ [H]
    · isplitr; · iexact HR
      isplitr; · iexact Hlev
      iexact H
    iintro H
    iapply (ih s₁ s' h2) $$ [H]
    · isplitr; · iexact HR
      isplitr; · iexact Hlev
      iexact H
    iexact Hk

def tab0 : Tab := ([0, 0, 0, 0, 0, 0], sends)
def tab1 : Tab := ([15, 15, 15, 15, 15, 15], [])
set_option maxRecDepth 65536 in
/-- The program's events run through the table. -/
theorem steps_events : steps events tab0 = some tab1 := by decide +kernel

end Cert.KernelIdeal.Allreduce

end
-- ==== Proof.KI.Rows.lean ====
/-
  Whole buffers as bands: what a device holds before the barrier, dealt out by chunk, and what it holds at the end, put together
  again.
-/
module

public import proofs.«01_k».proof.Proof.KI.Run

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop)

variable {F : FTy → Type} [FloatOps F]

local notation "𝕄" => MT nD τ sig Unit (Elt F) ℕ UU ℕ

/-! ## Six bands in a row -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- Consecutive bands, from row 0. -/
def InRow (off sz : Fin 6 → ℕ) : Prop :=
  off 0 = 0 ∧ off 1 = off 0 + sz 0 ∧ off 2 = off 1 + sz 1 ∧ off 3 = off 2 + sz 2 ∧ off 4 = off 3 + sz 3 ∧ off 5 = off 4 + sz 4
theorem base_row : InRow base rs := ⟨rfl, rfl, rfl, rfl, rfl, rfl⟩
theorem resOff_row : InRow resOff qs := ⟨rfl, rfl, rfl, rfl, rfl, rfl⟩
theorem rs_sum : rs 0 + (rs 1 + (rs 2 + (rs 3 + (rs 4 + rs 5)))) = 1024 := rfl
theorem qs_sum : qs 0 + (qs 1 + (qs 2 + (qs 3 + (qs 4 + qs 5)))) = 256 := rfl

omit [FloatOps F] in
theorem six_split (P : ℕ → ℕ → sProp 𝕄) (hP : ∀ r a b, P r (a + b) ⊢ iprop(P r a ∗ P (r + a) b)) {off sz : Fin 6 → ℕ} (h : InRow off sz) {n : ℕ}
    (hn : sz 0 + (sz 1 + (sz 2 + (sz 3 + (sz 4 + sz 5)))) = n) :
    P 0 n ⊢ bigSep Finset.univ fun k : Fin 6 => P (off k) (sz k) := by
  subst hn
  obtain ⟨h0, h1, h2, h3, h4, h5⟩ := h
  rw [bigSep_six, h5, h4, h3, h2, h1, h0]
  exact (hP _ _ _).trans (BIClass.sep_mono .rfl ((hP _ _ _).trans (BIClass.sep_mono .rfl ((hP _ _ _).trans (BIClass.sep_mono .rfl
    ((hP _ _ _).trans (BIClass.sep_mono .rfl (hP _ _ _))))))))
omit [FloatOps F] in
theorem six_join (P : ℕ → ℕ → sProp 𝕄) (hP : ∀ r a b, iprop(P r a ∗ P (r + a) b) ⊢ P r (a + b)) {off sz : Fin 6 → ℕ} (h : InRow off sz) {n : ℕ}
    (hn : sz 0 + (sz 1 + (sz 2 + (sz 3 + (sz 4 + sz 5)))) = n) :
    (bigSep Finset.univ fun k : Fin 6 => P (off k) (sz k)) ⊢ P 0 n := by
  subst hn
  obtain ⟨h0, h1, h2, h3, h4, h5⟩ := h
  rw [bigSep_six, h5, h4, h3, h2, h1, h0]
  exact (BIClass.sep_mono .rfl ((BIClass.sep_mono .rfl ((BIClass.sep_mono .rfl ((BIClass.sep_mono .rfl (hP _ _ _)).trans (hP _ _ _))).trans
    (hP _ _ _))).trans (hP _ _ _))).trans (hP _ _ _)

section Zones
variable {sp : Space} {n : ℕ} (d : Dev nD) (m : Memref sig .tc sp ⟨2, ![n, 1024]⟩ .f32) (h q s z : ℕ) (hs' : s = h + (q + q)) (hz : z = h + q)
include hs' hz
omit [FloatOps F] in
/-- A receive buffer is its three zones. -/
theorem zones_split : (ra d m 0 s : sProp 𝕄) ⊢ iprop(ra d m 0 h ∗ ra d m h q ∗ ra d m z q) := by
  subst hs' hz
  refine (ra_split d m 0 h _).trans (BIClass.sep_mono .rfl ?_)
  rw [Nat.zero_add]
  exact ra_split d m h q q
omit [FloatOps F] in
theorem zones_join : iprop(ra d m 0 h ∗ ra d m h q ∗ ra d m z q) ⊢ (ra d m 0 s : sProp 𝕄) := by
  subst hs' hz
  refine (BIClass.sep_mono .rfl ?_).trans (ra_join d m 0 h _)
  rw [Nat.zero_add]
  exact ra_join d m h q q
end Zones

/-! ## One chunk -/

variable (I : Inp F) (k : Fin 6) (c : Dev nD)

/-- What stays with the device of a chunk, at the start. -/
def L0 : sProp 𝕄 :=
  iprop(xt I k c ∗ rt I k c ∗ ra c aM (H k c) (hs k) ∗ ra c lM (resOff k) (qs k) ∗ ra c oM (Q k c) (qs k))
/-- A chunk's buffers whole, the result's rows at any contents or finished. -/
def C0 : sProp 𝕄 :=
  iprop(xt I k c ∗ rt I k c ∗ ra c aM (base k) (rs k) ∗ ra c lM (resOff k) (qs k) ∗ ra c (bM k) 0 (rs k) ∗ ra c oM (base k) (rs k))
def C1 : sProp 𝕄 :=
  iprop(xt I k c ∗ rt I k c ∗ ra c aM (base k) (rs k) ∗ ra c lM (resOff k) (qs k) ∗ ra c (bM k) 0 (rs k) ∗ rp c oM (base k) (rs k) (O4 I k c))

theorem chunk_start : C0 I k c ⊢ iprop(ra c aM (H k (sg k 0 c)) (hs k) ∗ L0 I k c ∗ bigSep Finset.univ fun j : Fin 3 => LZ k j c) := by
  unfold C0 L0
  rw [bigSep_three]
  iintro ⟨Hx, Hr, HA, HL, HB, HO⟩
  ihave HA := (ra_two' c aM (base k) (hs k) (H k c) (H k (sg k 0 c)) (rs k) (H_cases k c) (rs_eq2 k)) $$ HA
  icases HA with ⟨HA1, HA2⟩
  ihave HO := (ra_two' c oM (base k) (hs k) (H k c) (H k (sg k 0 c)) (rs k) (H_cases k c) (rs_eq2 k)) $$ HO
  icases HO with ⟨HO1, HO2⟩
  ihave HO1 := (ra_two' c oM (H k c) (qs k) (Q k c) (Q k (sg k 1 c)) (hs k) (Q_cases k c) (hs_eq k)) $$ HO1
  icases HO1 with ⟨HO1, HO3⟩
  ihave HB := (zones_split c (bM k) (hs k) (qs k) (rs k) (zoneOff k 2) (rs_eq k) (zone2_eq k)) $$ HB
  icases HB with ⟨HB0, HB1, HB2⟩
  isplitl [HA2]; · iexact HA2
  isplitl [Hx Hr HA1 HL HO1]
  · isplitl [Hx]; · iexact Hx
    isplitl [Hr]; · iexact Hr
    isplitl [HA1]; · iexact HA1
    isplitl [HL]; · iexact HL
    iexact HO1
  unfold LZ
  isplitl [HB0 HO2]
  · isplitl [HB0]; · iexact HB0
    iexact HO2
  isplitl [HB1 HO3]
  · isplitl [HB1]; · iexact HB1
    iexact HO3
  iexact HB2

theorem chunk_mem0 : iprop(L0 I k c ∗ bigSep Finset.univ fun j : Fin 3 => LZ k j (sg k j c)) ⊢ MEM I k c 0 := by
  unfold L0 MEM
  rw [bigSep_three]
  simp only [M0, M1, M2, MA, MR, MO, Nat.reduceLT, reduceIte]
  unfold LZ
  simp only [sg_sg]
  iintro ⟨⟨Hx, Hr, HA, HL, HO⟩, ⟨HB0, HO0⟩, ⟨HB1, HO1⟩, HB2⟩
  isplitl [Hx HB0]
  · isplitl [Hx]; · iexact Hx
    iexact HB0
  isplitl [HB1]; · iexact HB1
  isplitl [HB2]; · iexact HB2
  isplitl [HA]; · iexact HA
  isplitl [Hr HL]
  · isplitl [Hr]; · iexact Hr
    iexact HL
  isplitl [HO]; · iexact HO
  isplitl [HO1]; · iexact HO1
  iexact HO0

theorem chunk_end : iprop(ra c aM (H k (sg k 0 c)) (hs k) ∗ MEM I k c 15) ⊢ C1 I k c := by
  unfold C1 MEM
  simp only [M0, M1, M2, MA, MR, MO, Nat.reduceLT, reduceIte]
  iintro ⟨HA2, ⟨Hx, HB0⟩, HB1, HB2, ⟨HA, HA'⟩, ⟨Hr, HL⟩, HO, HO'⟩
  ihave HA := (rp_ra c aM (Q k c) (qs k) (Bc I k c)) $$ HA
  ihave HA' := (rp_ra c aM (Q k (sg k 1 c)) (qs k) (Ac I k c)) $$ HA'
  ihave HL := (rp_ra c lM (resOff k) (qs k) _) $$ HL
  ihave HB0 := (show (recvPay I k 0 c : sProp 𝕄) ⊢ ra c (bM k) 0 (hs k) from rp_ra c (bM k) 0 (hs k) _) $$ HB0
  ihave HB1 := (show (recvPay I k 1 c : sProp 𝕄) ⊢ ra c (bM k) (hs k) (qs k) from rp_ra c (bM k) (hs k) (qs k) _) $$ HB1
  ihave HB2 := (show (recvPay I k 2 c : sProp 𝕄) ⊢ ra c (bM k) (zoneOff k 2) (qs k) from rp_ra c (bM k) (zoneOff k 2) (qs k) _) $$ HB2
  isplitl [Hx]; · iexact Hx
  isplitl [Hr]; · iexact Hr
  isplitl [HA HA' HA2]
  · iapply (ra_two c aM (base k) (hs k) (H k c) (H k (sg k 0 c)) (rs k) (H_cases k c) (rs_eq2 k))
    isplitr [HA2]
    · iapply (ra_two c aM (H k c) (qs k) (Q k c) (Q k (sg k 1 c)) (hs k) (Q_cases k c) (hs_eq k))
      isplitl [HA]; · iexact HA
      iexact HA'
    iexact HA2
  isplitl [HL]; · iexact HL
  isplitl [HB0 HB1 HB2]
  · iapply (zones_join c (bM k) (hs k) (qs k) (rs k) (zoneOff k 2) (rs_eq k) (zone2_eq k))
    isplitl [HB0]; · iexact HB0
    isplitl [HB1]; · iexact HB1
    iexact HB2
  iapply (rp_two c oM (base k) (hs k) (H k c) (H k (sg k 0 c)) (rs k) (H_cases k c) (rs_eq2 k) (O4 I k c))
  isplitl [HO]
  · iapply (rp_congr c oM (H k c) (hs k) (X := O3 I k c) (Y := O4 I k c) (fun i h1 h2 => by unfold O4; rw [if_pos ⟨h1, h2⟩]))
    iexact HO
  · iapply (rp_congr c oM (H k (sg k 0 c)) (hs k) (X := O3 I k (sg k 0 c)) (Y := O4 I k c) (fun i h1 h2 => by
      unfold O4; rw [if_neg (by have := H_cases k c; omega)]))
    iexact HO'

/-! ## All chunks -/

/-- The chunk of a row. -/
def chunkOf (row : ℕ) : Fin 6 :=
  if row < 192 then 0 else if row < 352 then 1 else if row < 544 then 2 else if row < 704 then 3 else if row < 864 then 4 else 5
theorem chunkOf_eq (k : Fin 6) (row : ℕ) (h1 : base k ≤ row) (h2 : row < base k + rs k) : chunkOf row = k := by
  unfold chunkOf
  fin_cases k <;> simp only [base, rs] at h1 h2 <;> split_ifs <;> first | rfl | omega

/-- The finished rows. -/
def Out : Rows F := fun row => O4 I (chunkOf row) c row
/-- The finished result of a device. -/
def outv : Vec F S1024x1024 .f32 := fun i => Out I c (i 0).val (i 1)

/-- What a device holds before the barrier; -/
def W0 : sProp 𝕄 :=
  iprop(((c : Thread nD τ).loc cc0_stg0_0 ↦{fullShare} I.x c) ∗ ((c : Thread nD τ).loc main_arg1 ↦{fullShare} I.r c)
    ∗ ra c aM 0 1024 ∗ ra c lM 0 256 ∗ (bigSep Finset.univ fun k : Fin 6 => ra c (bM k) 0 (rs k)) ∗ ra c oM 0 1024)
/-- at the end. -/
def W1 : sProp 𝕄 :=
  iprop(((c : Thread nD τ).loc cc0_stg0_0 ↦{fullShare} I.x c) ∗ ((c : Thread nD τ).loc main_arg1 ↦{fullShare} I.r c)
    ∗ ra c aM 0 1024 ∗ ra c lM 0 256 ∗ (bigSep Finset.univ fun k : Fin 6 => ra c (bM k) 0 (rs k)) ∗ ((c : Thread nD τ).loc cc0_stg2_0 ↦{fullShare} outv I c))
/-- What no chunk uses. -/
def keep : sProp 𝕄 :=
  iprop(((c : Thread nD τ).loc cc0_stg0_0 ↦{shareDrop fullShare 6} I.x c) ∗ ((c : Thread nD τ).loc main_arg1 ↦{shareDrop fullShare 6} I.r c))

theorem W0_chunks : W0 I c ⊢ iprop(keep I c ∗ bigSep Finset.univ fun k : Fin 6 => C0 I k c) := by
  unfold W0 keep C0
  simp only [bigSep_sep']
  iintro ⟨Hx, Hr, HA, HL, HB, HO⟩
  ihave Hx := (Transfers.pointsTo_toks_split fullShare 6) $$ Hx
  icases Hx with ⟨Hx0, Hx⟩
  ihave Hr := (Transfers.pointsTo_toks_split fullShare 6) $$ Hr
  icases Hr with ⟨Hr0, Hr⟩
  ihave HA := (show (ra c aM 0 1024 : sProp 𝕄) ⊢ _ from six_split (fun r h => (ra c aM r h : sProp 𝕄)) (fun r a b => ra_split c aM r a b) base_row rs_sum) $$ HA
  ihave HO := (show (ra c oM 0 1024 : sProp 𝕄) ⊢ _ from six_split (fun r h => (ra c oM r h : sProp 𝕄)) (fun r a b => ra_split c oM r a b) base_row rs_sum) $$ HO
  ihave HL := (show (ra c lM 0 256 : sProp 𝕄) ⊢ _ from six_split (fun r h => (ra c lM r h : sProp 𝕄)) (fun r a b => ra_split c lM r a b) resOff_row qs_sum) $$ HL
  isplitl [Hx0 Hr0]
  · isplitl [Hx0]; · iexact Hx0
    iexact Hr0
  isplitl [Hx]; · iexact Hx
  isplitl [Hr]; · iexact Hr
  isplitl [HA]; · iexact HA
  isplitl [HL]; · iexact HL
  isplitl [HB]; · iexact HB
  iexact HO

/-- The result's buffer, its rows held at the finished contents. -/
theorem out_whole : (rp c oM 0 1024 (Out I c) : sProp 𝕄) ⊢ ((c : Thread nD τ).loc cc0_stg2_0 ↦{fullShare} outv I c) := by
  unfold rp
  rw [rowSet_all oM (View.set_whole _)]
  iintro ⟨%f, %hf, H⟩
  have e : f = outv I c := funext fun i => (hf i (Nat.zero_le _) (by rw [Nat.zero_add]; exact (i 0).isLt))
  subst e
  iexact H

theorem chunks_W1 : iprop(keep I c ∗ bigSep Finset.univ fun k : Fin 6 => C1 I k c) ⊢ W1 I c := by
  unfold W1 keep C1
  simp only [bigSep_sep']
  iintro ⟨⟨Hx0, Hr0⟩, Hx, Hr, HA, HL, HB, HO⟩
  isplitl [Hx0 Hx]
  · iapply (Transfers.pointsTo_toks_join fullShare 6)
    isplitl [Hx0]; · iexact Hx0
    iexact Hx
  isplitl [Hr0 Hr]
  · iapply (Transfers.pointsTo_toks_join fullShare 6)
    isplitl [Hr0]; · iexact Hr0
    iexact Hr
  isplitl [HA]; · iapply (show _ ⊢ (ra c aM 0 1024 : sProp 𝕄) from six_join (fun r h => (ra c aM r h : sProp 𝕄)) (fun r a b => ra_join c aM r a b) base_row rs_sum); iexact HA
  isplitl [HL]; · iapply (show _ ⊢ (ra c lM 0 256 : sProp 𝕄) from six_join (fun r h => (ra c lM r h : sProp 𝕄)) (fun r a b => ra_join c lM r a b) resOff_row qs_sum); iexact HL
  isplitl [HB]; · iexact HB
  iapply (out_whole I c)
  iapply (show _ ⊢ (rp c oM 0 1024 (Out I c) : sProp 𝕄) from six_join (fun r h => (rp c oM r h (Out I c) : sProp 𝕄)) (fun r a b => rp_join c oM r a b _) base_row rs_sum)
  iapply (show (bigSep Finset.univ fun k : Fin 6 => (rp c oM (base k) (rs k) (O4 I k c) : sProp 𝕄)) ⊢ bigSep Finset.univ fun k : Fin 6 => rp c oM (base k) (rs k) (Out I c) from
    bigSep_mono fun k _ => rp_congr c oM (base k) (rs k) fun i h1 h2 => by unfold Out; rw [chunkOf_eq k i h1 h2])
  iexact HO

omit [FloatOps F] in
/-- The rows a device's partners write, by chunk and stage, are what its three signals give; -/
theorem zones_give : (bigSep Finset.univ fun k : Fin 6 => bigSep Finset.univ fun j : Fin 3 => LZ (F := F) k j c)
    ⊢ bigSep Finset.univ fun a : Fin 3 => barPay a (peer a c) := by
  unfold barPay
  simp only [peer_peer]
  rw [bigSep_univ_comm fun (a : Fin 3) (k : Fin 6) => LZ (F := F) k (axInv k a) c]
  exact Entails.of_eq (bigSep_congr fun k _ => bigSep_univ_equiv (axE k).symm fun j => LZ k j c)

omit [FloatOps F] in
/-- and what the barrier gives are the partners' rows, by chunk and stage. -/
theorem zones_take : (bigSep Finset.univ fun a : Fin 3 => barPay (F := F) a c)
    ⊢ bigSep Finset.univ fun k : Fin 6 => bigSep Finset.univ fun j : Fin 3 => LZ k j (sg k j c) := by
  unfold barPay
  rw [bigSep_univ_comm]
  refine (Entails.of_eq (bigSep_congr fun k _ => ?_))
  rw [bigSep_univ_equiv (axE k) fun a => LZ k (axInv k a) (peer a c)]
  exact bigSep_congr fun j _ => by
    show LZ k (axInv k (ax k j)) (peer (ax k j) c) = _
    rw [ax_left]; rfl

end Cert.KernelIdeal.Allreduce

end
-- ==== Proof.KI.Body.lean ====
/-
  The kernel's body on one device: the three signals, the barrier, the events, from the whole buffers to the finished result.
-/
module

public import proofs.«01_k».proof.Proof.KI.Rows

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTok shareDrop)

variable {F : FTy → Type} [FloatOps F]

local notation "𝕄" => MT nD τ sig Unit (Elt F) ℕ UU ℕ

variable (I : Inp F) (K : Dev nD × CI → ℕ) (c : Dev nD)

/-- The tokens, positions and credits of a device's transfers, before any; -/
def gk0 : sProp 𝕄 := bigSep Finset.univ fun k : Fin 6 => iprop(gr k c 0 ∗ bigSep Finset.univ fun ph : Fin 5 => gs k c ph 0)
/-- after all of them, every semaphore at zero. -/
def gk1 : sProp 𝕄 := bigSep Finset.univ fun k : Fin 6 => iprop(semVal (dCell c k rsd) 0
  ∗ bigSep Finset.univ fun ph : Fin 5 => iprop(semVal (dCell c k (snd ph)) 0 ∗ semVal (dCell c k (rcv ph)) 0))

theorem tab0_get : ∀ k : Fin 6, tab0.1.getD k.val 0 = 0 := by decide
theorem tab1_get : ∀ k : Fin 6, tab1.1.getD k.val 0 = 15 := by decide
theorem tsend_le : ∀ ph, tsend ph + 2 ≤ 15 := by decide

theorem start_state : iprop((bigSep Finset.univ fun k : Fin 6 => L0 I k c)
      ∗ (bigSep Finset.univ fun k : Fin 6 => bigSep Finset.univ fun j : Fin 3 => LZ k j (sg k j c)) ∗ gk0 c ∗ ow c sends ∗ gPts I c)
    ⊢ GSt I c tab0 := by
  unfold GSt gk0 CS
  simp only [tab0_get]
  rw [bigSep_sep' Finset.univ (fun k : Fin 6 => (MEM I k c 0 : sProp 𝕄))]
  iintro ⟨HL, HZ, HG, HO, Hg⟩
  isplitl [HO]; · iexact HO
  isplitl [Hg]; · iexact Hg
  isplitr [HG]
  · iapply (show iprop((bigSep Finset.univ fun k : Fin 6 => L0 I k c)
      ∗ (bigSep Finset.univ fun k : Fin 6 => bigSep Finset.univ fun j : Fin 3 => LZ k j (sg k j c))) ⊢ bigSep Finset.univ fun k : Fin 6 => MEM I k c 0 from by
        rw [← bigSep_sep']; exact bigSep_mono fun k _ => chunk_mem0 I k c)
    isplitl [HL]; · iexact HL
    iexact HZ
  iexact HG

theorem end_state : iprop((bigSep Finset.univ fun k : Fin 6 => ra c aM (H k (sg k 0 c)) (hs k)) ∗ GSt I c tab1)
    ⊢ iprop((bigSep Finset.univ fun k : Fin 6 => C1 I k c) ∗ gk1 c ∗ ow c [] ∗ gPts I c) := by
  unfold GSt gk1 CS
  simp only [tab1_get]
  rw [bigSep_sep', show (fun k : Fin 6 => (iprop(gr k c 15 ∗ bigSep Finset.univ fun ph : Fin 5 => gs k c ph 15) : sProp 𝕄))
    = fun k : Fin 6 => iprop(semVal (dCell c k rsd) 0
      ∗ bigSep Finset.univ fun ph : Fin 5 => iprop(semVal (dCell c k (snd ph)) 0 ∗ semVal (dCell c k (rcv ph)) 0)) from by
    funext k
    congr 1]
  iintro ⟨HA, HO, Hg, HM, HG⟩
  isplitl [HA HM]
  · iapply (show iprop((bigSep Finset.univ fun k : Fin 6 => ra c aM (H k (sg k 0 c)) (hs k)) ∗ bigSep Finset.univ fun k : Fin 6 => MEM I k c 15)
        ⊢ bigSep Finset.univ fun k : Fin 6 => C1 I k c from by
      rw [← bigSep_sep']; exact bigSep_mono fun k _ => chunk_end I k c)
    isplitl [HA]; · iexact HA
    iexact HM
  isplitl [HG]; · iexact HG
  isplitl [HO]; · iexact HO
  iexact Hg

/-- What the body starts from, -/
def bodyIn : sProp 𝕄 :=
  iprop(W0 I c ∗ gPts I c ∗ (∃ W, owes (c : Thread nD τ) (O₀ c) W) ∗ (bigSep Finset.univ fun a : Fin 3 => dutyTok ER (barCell (peer a c)) 0 a)
    ∗ cred (tallyAt (barCell c) () 3) ∗ atPos ER (barCell c) 0 ∅ 0 ∗ gk0 c)
/-- and ends with. -/
def bodyOut : sProp 𝕄 :=
  iprop(W1 I c ∗ gPts I c ∗ (∃ W, owes (c : Thread nD τ) 0 W) ∗ semVal (barCell c) 0 ∗ gk1 c)

/-- The kernel from the device's number on. -/
def kernelAt (d : Dev nD) : PG F PUnit :=
  (semSignalWord (bdev 0 d) barS 1#32).bind fun _ =>
  (semSignalWord (bdev 1 d) barS 1#32).bind fun _ =>
  (semSignalWord (bdev 2 d) barS 1#32).bind fun _ =>
  (semWaitWord barS 3#32).bind fun _ => seqP d events
theorem kernelP_eq : (kernelP : PG F PUnit) = .op .deviceId kernelAt := rfl

theorem sound_body {Kt : PUnit.{1} → sProp 𝕄} :
    iprop(records I K ∗ levAts L lv ∗ bodyIn I c) ⊢ iprop((bodyOut I c -∗ Kt ⟨⟩) -∗ wpc c kernelP Kt) := by
  unfold bodyIn bodyOut
  rw [kernelP_eq]
  simp only [wp_deviceId]
  unfold kernelAt
  iintro ⟨#HR, #Hlev, HW, Hg, ⟨%W, HO⟩, Ht, Hc, Hat, Hk0⟩ Hk
  ihave HW := (W0_chunks I c) $$ HW
  icases HW with ⟨Hkeep, HC⟩
  ihave HC := (show (bigSep Finset.univ fun k : Fin 6 => C0 I k c) ⊢ iprop((bigSep Finset.univ fun k : Fin 6 => ra c aM (H k (sg k 0 c)) (hs k))
      ∗ (bigSep Finset.univ fun k : Fin 6 => L0 I k c) ∗ bigSep Finset.univ fun k : Fin 6 => bigSep Finset.univ fun j : Fin 3 => LZ k j c) from by
    rw [← bigSep_sep', ← bigSep_sep']; exact bigSep_mono fun k _ => chunk_start I k c) $$ HC
  icases HC with ⟨HA, HL, HZ⟩
  ihave HZ := (zones_give c) $$ HZ
  ihave HZ := (Entails.of_eq (bigSep_three _)) $$ HZ
  ihave Ht := (Entails.of_eq (bigSep_three _)) $$ Ht
  icases HZ with ⟨HZ0, HZ1, HZ2⟩
  icases Ht with ⟨Ht0, Ht1, Ht2⟩
  iapply (wp_sig I K c 0 (bdev 0 c) (bdev_eq 0 c) (Ow c sends + tallyAt (barCell (peer 2 c)) () 1 + tallyAt (barCell (peer 1 c)) () 1) W) $$ [HO Ht0 HZ0]
  · isplitr; · iexact HR
    isplitl [HO]; · iexact HO
    isplitl [Ht0]; · iexact Ht0
    iexact HZ0
  iintro HO
  iapply (wp_sig I K c 1 (bdev 1 c) (bdev_eq 1 c) (Ow c sends + tallyAt (barCell (peer 2 c)) () 1) W) $$ [HO Ht1 HZ1]
  · isplitr; · iexact HR
    isplitl [HO]; · iexact HO
    isplitl [Ht1]; · iexact Ht1
    iexact HZ1
  iintro HO
  iapply (wp_sig I K c 2 (bdev 2 c) (bdev_eq 2 c) (Ow c sends) W) $$ [HO Ht2 HZ2]
  · isplitr; · iexact HR
    isplitl [HO]; · iexact HO
    isplitl [Ht2]; · iexact Ht2
    iexact HZ2
  iintro HO
  iapply (wp_bar I K c W) $$ [HO Hc Hat]
  · isplitr; · iexact HR
    isplitr; · iexact Hlev
    isplitl [HO]; · iexact HO
    isplitl [Hc]; · iexact Hc
    iexact Hat
  iintro ⟨HO, Hz, HZ⟩
  ihave HZ := (zones_take c) $$ HZ
  ihave HS := (start_state I c) $$ [HL HZ Hk0 HO Hg]
  · isplitl [HL]; · iexact HL
    isplitl [HZ]; · iexact HZ
    isplitl [Hk0]; · iexact Hk0
    isplitl [HO]; · iexact HO
    iexact Hg
  iapply (run_steps I K c events tab0 tab1 steps_events) $$ [HS]
  · isplitr; · iexact HR
    isplitr; · iexact Hlev
    iexact HS
  iintro HS
  ihave HS := (end_state I c) $$ [HA HS]
  · isplitl [HA]; · iexact HA
    iexact HS
  icases HS with ⟨HC, Hk1, HO, Hg⟩
  iapply Hk
  isplitl [Hkeep HC]
  · iapply (chunks_W1 I c)
    isplitl [Hkeep]; · iexact Hkeep
    iexact HC
  isplitl [Hg]; · iexact Hg
  isplitl [HO]; · unfold ow; iexact HO
  isplitl [Hz]; · iexact Hz
  iexact Hk1

end Cert.KernelIdeal.Allreduce

end
-- ==== Proof.KI.Deal.lean ====
/-
  The launch's ghost state: the tokens and positions of every cell, dealt to the devices that use them, the cells' records made
  for all devices at once, and the credit each device starts with.
-/
module

public import proofs.«01_k».proof.Proof.KI.Body
public import Idealize.ShloMosaic.Lib.Pipeline.Launch
public import Idealize.ShloMosaic.Lib.Pipeline.Kit

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ UU ℕ

variable (I : Inp F) (c : Dev nD)

/-! ## The cells and their tokens -/

theorem dsem_inj {k k' : Fin 6} {s s' : Slot} (h : dsem k s = dsem k' s') : (k, s) = (k', s') :=
  Option.some.inj (by rw [← dec_dsem, ← dec_dsem, h])

theorem csem_inj : Function.Injective csem := by
  rintro (_ | ⟨k, s⟩) (_ | ⟨k', s'⟩) h
  · rfl
  · exact absurd h (fun h => by cases h)
  · exact absurd h (fun h => by cases h)
  · exact congrArg Sum.inr (dsem_inj (SemLoc.dma.inj h))

theorem dev_inj {a b : Dev nD} (h : (a : Thread nD τ) = (b : Thread nD τ)) : a = b := congrArg Prod.fst h

theorem kcell_inj : Function.Injective (kcell : Dev nD × CI → GSem nD τ sig) := by
  rintro ⟨a, i⟩ ⟨b, j⟩ h
  exact Prod.ext (dev_inj (congrArg Prod.fst h)) (csem_inj (congrArg Prod.snd h))
def allCells : Finset (GSem nD τ sig) := Finset.univ.map ⟨kcell, kcell_inj⟩

/-- A device's own cells' duties: the barrier's three, one of each transfer's cell. -/
abbrev TI : Type := Fin 3 ⊕ (Fin 6 × Slot)
def tokOf (t : Dev nD × TI) : GSem nD τ sig × ℕ × Fin 3 := match t.2 with
  | .inl a => (barCell t.1, 0, a)
  | .inr ks => (dCell t.1 ks.1 ks.2, 0, 0)
theorem tokOf_inj : Function.Injective tokOf := by
  rintro ⟨a, i | i⟩ ⟨b, j | j⟩ h
  · have h2 : i = j := congrArg (fun x : GSem nD τ sig × ℕ × Fin 3 => x.2.2) h
    have h1 : a = b := dev_inj (congrArg (fun x : GSem nD τ sig × ℕ × Fin 3 => x.1.1) h)
    subst h1; subst h2; rfl
  · exact absurd (congrArg (fun x : GSem nD τ sig × ℕ × Fin 3 => x.1.2) h) (fun h => by cases h)
  · exact absurd (congrArg (fun x : GSem nD τ sig × ℕ × Fin 3 => x.1.2) h) (fun h => by cases h)
  · have h2 : i = j := dsem_inj (SemLoc.dma.inj (congrArg (fun x : GSem nD τ sig × ℕ × Fin 3 => x.1.2) h))
    have h1 : a = b := dev_inj (congrArg (fun x : GSem nD τ sig × ℕ × Fin 3 => x.1.1) h)
    subst h1; subst h2; rfl
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The transfers' semaphores are the kernel's own. -/
abbrev osem (ks : Fin 6 × Slot) : SemLoc sig := .dma (dsem ks.1 ks.2)

omit [FloatOps F] in
theorem rotate (A B C : sProp 𝕄) : iprop(A ∗ B ∗ C) = iprop(C ∗ A ∗ B) := by
  have h1 : iprop(A ∗ B ∗ C) ⊢ iprop(C ∗ A ∗ B) := by
    iintro ⟨H1, H2, H3⟩
    isplitl [H3]; · iexact H3
    isplitl [H1] <;> iassumption
  have h2 : iprop(C ∗ A ∗ B) ⊢ iprop(A ∗ B ∗ C) := by
    iintro ⟨H1, H2, H3⟩
    isplitl [H2]; · iexact H2
    isplitl [H3] <;> iassumption
  exact BI.Entails.antisymm h1 h2

omit [FloatOps F] in
/-- Over a chunk's slots: the residual's, and by phase the send's and the receive's. -/
theorem slots (Φ : Fin 6 × Slot → sProp 𝕄) : bigSep Finset.univ Φ
    = iprop((bigSep Finset.univ fun k : Fin 6 => Φ (k, rsd)) ∗ (bigSep Finset.univ fun k : Fin 6 => bigSep Finset.univ fun ph : Fin 5 => Φ (k, snd ph))
      ∗ bigSep Finset.univ fun k : Fin 6 => bigSep Finset.univ fun ph : Fin 5 => Φ (k, rcv ph)) := by
  have e (k : Fin 6) : (bigSep Finset.univ fun s : Slot => Φ (k, s))
      = iprop((bigSep Finset.univ fun ph : Fin 5 => Φ (k, snd ph)) ∗ (bigSep Finset.univ fun ph : Fin 5 => Φ (k, rcv ph)) ∗ Φ (k, rsd)) := by
    rw [bigSep_univ_sum, bigSep_univ_sum, show (Finset.univ : Finset Unit) = {()} from rfl, bigSep_singleton]; rfl
  rw [bigSep_univ_prod, bigSep_congr fun k _ => e k, bigSep_sep', bigSep_sep']
  exact rotate _ _ _

omit [FloatOps F] in
/-- Over a device's cells: the barrier's, the transfers'. -/
theorem cis (Φ : CI → sProp 𝕄) : bigSep Finset.univ Φ = iprop(Φ (.inl ()) ∗ bigSep Finset.univ fun ks : Fin 6 × Slot => Φ (.inr ks)) := by
  rw [bigSep_univ_sum, show (Finset.univ : Finset Unit) = {()} from rfl, bigSep_singleton]; rfl

/-- A device's own cells' tokens; -/
def toks : sProp 𝕄 :=
  iprop((bigSep Finset.univ fun a : Fin 3 => dutyTok ER (barCell c) 0 a) ∗ bigSep Finset.univ fun ks : Fin 6 × Slot => dutyTok ER (dCell c ks.1 ks.2) 0 0)
/-- the tokens of the duties it pays. -/
def payToks : sProp 𝕄 :=
  iprop((bigSep Finset.univ fun a : Fin 3 => dutyTok ER (barCell (peer a c)) 0 a)
    ∗ (bigSep Finset.univ fun k : Fin 6 => dutyTok ER (dCell c k rsd) 0 0)
    ∗ (bigSep Finset.univ fun k : Fin 6 => bigSep Finset.univ fun ph : Fin 5 => dutyTok ER (dCell c k (snd ph)) 0 0)
    ∗ bigSep Finset.univ fun k : Fin 6 => bigSep Finset.univ fun ph : Fin 5 => dutyTok ER (dCell (sg k (jp ph) c) k (rcv ph)) 0 0)

/-- What the launch deals a device, -/
def G : sProp 𝕄 :=
  iprop((bigSep Finset.univ fun i : CI => roundState ER (Rd I) (kcell (c, i)) 0)
    ∗ (bigSep Finset.univ fun i : CI => iprop(atPos ER (kcell (c, i)) 0 ∅ 0 ∗ reached ER (kcell (c, i)) 0)) ∗ toks c)
/-- and what the global step makes of it. -/
def lin : sProp 𝕄 := iprop((bigSep Finset.univ fun i : CI => atPos ER (kcell (c, i)) 0 ∅ 0) ∗ payToks c)
def G' : sProp 𝕄 := iprop(∃ K, records I K ∗ lin c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd I) allCells allToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The barrier's semaphore is the one the launch does not scope. -/
theorem unscopedSems0_eq : (unscopedSems0 c : sProp 𝕄) = semVal (barCell c) 0 := by
  unfold unscopedSems0; rw [bigSep_eq_bigSepL_of_eq [SemLoc.reg barS] (by decide) (by decide)]; rfl

omit [FloatOps F] in
theorem sems0 : iprop(Pipeline.ownSems0 (Ix := Unit) (Name := ℕ) (U := UU) (Lvl := ℕ) (Val := Elt F) (τ := τ) osem c ∗ unscopedSems0 c)
    ⊢ (bigSep Finset.univ fun i : CI => semVal (kcell (c, i)) 0 : sProp 𝕄) := by
  rw [unscopedSems0_eq, cis]
  unfold Pipeline.ownSems0
  iintro ⟨H, HB⟩
  isplitl [HB]; · iexact HB
  iexact H

theorem core_alloc : iprop(Pipeline.ownSems0 (Ix := Unit) (Name := ℕ) (U := UU) (Lvl := ℕ) (Val := Elt F) (τ := τ) osem c ∗ unscopedSems0 c ∗ G I c)
    ⊢ |={Set.univ}=> iprop((bigSep Finset.univ fun i : CI => iprop(∃ κ : ℕ, cellInv ER (Rd I) κ (kcell (c, i))))
        ∗ (bigSep Finset.univ fun i : CI => iprop(atPos ER (kcell (c, i)) 0 ∅ 0 ∗ reached ER (kcell (c, i)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun i : CI => semVal (kcell (c, i)) 0) ∗ bigSep Finset.univ fun i : CI => roundState ER (Rd I) (kcell (c, i)) 0)
      ⊢ (|={Set.univ}=> bigSep Finset.univ fun i : CI => iprop(∃ κ : ℕ, cellInv ER (Rd I) κ (kcell (c, i))) : sProp 𝕄) from by
        rw [← bigSep_sep']
        exact (bigSep_mono fun i _ => (Rounds.body_intro ER (Rd I) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over the devices, read at each device's partner, is the family. -/
theorem around (a : Fin 3) (Φ : Dev nD → sProp 𝕄) : bigSep Finset.univ Φ = bigSep Finset.univ fun c => Φ (peer a c) := bigSep_univ_equiv (peerE a) Φ

omit [FloatOps F] in
/-- The tokens dealt around: a barrier's to the partners along the axes, a receive's to the device that sends. -/
theorem toks_around : (bigSep Finset.univ fun c : Dev nD => (toks c : sProp 𝕄)) ⊢ bigSep Finset.univ fun c : Dev nD => payToks c := by
  unfold toks payToks
  simp only [bigSep_sep', slots]
  rw [bigSep_univ_comm fun (c : Dev nD) (a : Fin 3) => (dutyTok ER (barCell c) 0 a : sProp 𝕄),
    bigSep_univ_comm fun (c : Dev nD) (a : Fin 3) => (dutyTok ER (barCell (peer a c)) 0 a : sProp 𝕄),
    bigSep_congr fun (a : Fin 3) _ => around (F := F) a fun c => dutyTok ER (barCell c) 0 a,
    bigSep_univ_comm fun (c : Dev nD) (k : Fin 6) => (bigSep Finset.univ fun ph : Fin 5 => dutyTok ER (dCell c k (rcv ph)) 0 0 : sProp 𝕄),
    bigSep_univ_comm fun (c : Dev nD) (k : Fin 6) => (bigSep Finset.univ fun ph : Fin 5 => dutyTok ER (dCell (sg k (jp ph) c) k (rcv ph)) 0 0 : sProp 𝕄),
    bigSep_congr fun (k : Fin 6) _ => bigSep_univ_comm fun (c : Dev nD) (ph : Fin 5) => (dutyTok ER (dCell c k (rcv ph)) 0 0 : sProp 𝕄),
    bigSep_congr fun (k : Fin 6) _ => bigSep_univ_comm fun (c : Dev nD) (ph : Fin 5) => (dutyTok ER (dCell (sg k (jp ph) c) k (rcv ph)) 0 0 : sProp 𝕄),
    bigSep_congr fun (k : Fin 6) _ => bigSep_congr fun (ph : Fin 5) _ => around (F := F) (ax k (jp ph)) fun c => dutyTok ER (dCell c k (rcv ph)) 0 0]
  exact .rfl

omit [FloatOps F] in
theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd I) κ (kcell (c, i))))
          ∗ (bigSep Finset.univ fun i : CI => iprop(atPos ER (kcell (c, i)) 0 ∅ 0 ∗ reached ER (kcell (c, i)) 0)) ∗ toks c) : sProp 𝕄)
      ⊢ bigSep Finset.univ (G' I) := by
  rw [bigSep_sep', bigSep_sep', ← bigSep_univ_prod (fun ci : Dev nD × CI => iprop(∃ κ : ℕ, cellInv ER (Rd I) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd I) κ (kcell ci) : sProp 𝕄))) $$ HI
  icases HK with ⟨%K, #HI⟩
  ihave Htk := (toks_around (F := F)) $$ Htok
  iapply (with_persistent (R := records I K) (Φ := fun c => lin c) fun c _ => show iprop(records I K ∗ lin c) ⊢ G' I c from by
    unfold G'; iintro ⟨#HK, Hl⟩; iexists K; isplitr; · iexact HK
    iexact Hl)
  isplitr
  · unfold records; isplitl; · iexact HI
    iexact HR
  · unfold lin
    rw [bigSep_sep']
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

omit [FloatOps F] in
/-- When every device owes its partner's cell an amount, every device starts with that credit. -/
theorem cred_peer (a : Fin 3) (sm : SemLoc sig) (n : ℕ) :
    (Pipeline.launchCred (fun d : Dev nD => (tallyAt ((peer a d : Thread nD τ), sm) () n : CellTallies nD τ sig Unit)) c : sProp 𝕄)
      ⊢ cred (tallyAt ((c : Thread nD τ), sm) () n) := by
  refine (Pipeline.launchCred_elim _ c sm).trans (Entails.of_eq (congrArg cred ?_))
  unfold tallyAt
  refine congrArg _ (Finsupp.ext fun u => ?_); cases u
  rw [Pipeline.launchCredit_owing, Finsupp.single_eq_same]
  refine (Finset.sum_congr rfl fun d _ => ?_).trans ((Finset.sum_ite_eq' Finset.univ (peer a c) fun _ => n).trans (if_pos (Finset.mem_univ _)))
  show (tallyAt ((peer a d : Thread nD τ), sm) () n : CellTallies nD τ sig Unit) ((c : Thread nD τ), sm) () = _
  rw [tallyAt_apply]
  by_cases h : d = peer a c
  · subst h; rw [peer_peer, if_pos ⟨rfl, rfl⟩, if_pos rfl]
  · rw [if_neg (fun h' => h (by rw [show c = peer a d from dev_inj (congrArg Prod.fst h'.1), peer_peer])), if_neg h]

omit [FloatOps F] in
theorem creds_list : ∀ l : List (Fin 5 × Fin 6), l.Nodup → (Pipeline.launchCred (fun d => Ow d l) c : sProp 𝕄)
    ⊢ bigSep l.toFinset fun x => cred (tallyAt (dCell c x.2 (rcv x.1)) () (amtP x.2 x.1))
  | [], _ => by rw [List.toFinset_nil, bigSep_empty]; iintro -; iempintro
  | x :: l, h => by
    rw [show (fun d => Ow d (x :: l)) = fun d => Ow d l + owe1 d x from funext fun d => Ow_cons d x l, Pipeline.launchCred_add, List.toFinset_cons,
      bigSep_insert (fun hx => (List.nodup_cons.mp h).1 (List.mem_toFinset.mp hx))]
    exact sep_comm.trans (BIClass.sep_mono (cred_peer c (ax x.2 (jp x.1)) _ _) (creds_list l (List.nodup_cons.mp h).2))

theorem sends_all : sends.toFinset = Finset.univ := by decide
theorem sends_nodup : sends.Nodup := by decide

omit [FloatOps F] in
theorem creds : (Pipeline.launchCred O₀ c : sProp 𝕄)
    ⊢ iprop(cred (tallyAt (barCell c) () 3) ∗ bigSep Finset.univ fun k : Fin 6 => bigSep Finset.univ fun ph : Fin 5 => cred (tallyAt (dCell c k (rcv ph)) () (amtP k ph))) := by
  rw [show (O₀ : Dev nD → CellTallies nD τ sig Unit) = fun d => ((Ow d sends + tallyAt (barCell (peer 2 d)) () 1) + tallyAt (barCell (peer 1 d)) () 1) + tallyAt (barCell (peer 0 d)) () 1 from rfl,
    Pipeline.launchCred_add, Pipeline.launchCred_add, Pipeline.launchCred_add]
  iintro ⟨⟨⟨H, H2⟩, H1⟩, H0⟩
  ihave H := (creds_list (F := F) c sends sends_nodup) $$ H
  ihave H := (show _ ⊢ (bigSep Finset.univ fun k : Fin 6 => bigSep Finset.univ fun ph : Fin 5 => cred (tallyAt (dCell c k (rcv ph)) () (amtP k ph)) : sProp 𝕄) from
    Entails.of_eq (by rw [sends_all, bigSep_univ_prod, bigSep_univ_comm])) $$ H
  ihave H0 := (cred_peer (F := F) c 0 _ 1) $$ H0
  ihave H1 := (cred_peer (F := F) c 1 _ 1) $$ H1
  ihave H2 := (cred_peer (F := F) c 2 _ 1) $$ H2
  isplitr [H]
  · rw [show (tallyAt (barCell c) () 3 : CellTallies nD τ sig Unit) = (tallyAt (barCell c) () 1 + tallyAt (barCell c) () 1) + tallyAt (barCell c) () 1 from by
      rw [tallyAt_add, tallyAt_add]]
    iapply (cred_add _ _).2
    isplitr [H2]
    · iapply (cred_add _ _).2
      isplitl [H0] <;> iassumption
    · iexact H2
  · iexact H

omit [FloatOps F] in
theorem gk0_intro : iprop((bigSep Finset.univ fun ks : Fin 6 × Slot => atPos ER (dCell c ks.1 ks.2) 0 ∅ 0)
      ∗ ((bigSep Finset.univ fun k : Fin 6 => dutyTok ER (dCell c k rsd) 0 0)
        ∗ (bigSep Finset.univ fun k : Fin 6 => bigSep Finset.univ fun ph : Fin 5 => dutyTok ER (dCell c k (snd ph)) 0 0)
        ∗ bigSep Finset.univ fun k : Fin 6 => bigSep Finset.univ fun ph : Fin 5 => dutyTok ER (dCell (sg k (jp ph) c) k (rcv ph)) 0 0)
      ∗ bigSep Finset.univ fun k : Fin 6 => bigSep Finset.univ fun ph : Fin 5 => cred (tallyAt (dCell c k (rcv ph)) () (amtP k ph)))
    ⊢ (gk0 c : sProp 𝕄) := by
  rw [slots]
  unfold gk0
  have h1 (k : Fin 6) : (gr k c 0 : sProp 𝕄) = iprop(dutyTok ER (dCell c k rsd) 0 0 ∗ atPos ER (dCell c k rsd) 0 ∅ 0) := by unfold gr; rw [if_pos Nat.one_pos]
  have h2 (k : Fin 6) (ph : Fin 5) : (gs k c ph 0 : sProp 𝕄) = iprop(dutyTok ER (dCell c k (snd ph)) 0 0 ∗ dutyTok ER (dCell (sg k (jp ph) c) k (rcv ph)) 0 0
      ∗ atPos ER (dCell c k (snd ph)) 0 ∅ 0 ∗ atPos ER (dCell c k (rcv ph)) 0 ∅ 0 ∗ cred (tallyAt (dCell c k (rcv ph)) () (amtP k ph))) := by unfold gs; rw [if_pos (Nat.succ_pos _)]
  simp only [h1, h2, bigSep_sep']
  iintro ⟨⟨Ar, As, Av⟩, ⟨Tr, Ts, Tv⟩, C⟩
  isplitl [Tr Ar]
  · isplitl [Tr] <;> iassumption
  isplitl [Ts]; · iexact Ts
  isplitl [Tv]; · iexact Tv
  isplitl [As]; · iexact As
  isplitl [Av] <;> iassumption

omit [FloatOps F] in
/-- Every transfer's semaphore at zero. -/
theorem gk1_own : (gk1 c : sProp 𝕄) ⊢ Pipeline.ownSems0 (Ix := Unit) (Name := ℕ) (U := UU) (Lvl := ℕ) (Val := Elt F) (τ := τ) osem c := by
  unfold gk1 Pipeline.ownSems0
  rw [slots]
  simp only [bigSep_sep']
  exact .rfl

end Cert.KernelIdeal.Allreduce

end
-- ==== Proof.KI.Launch.lean ====
/-
  The launch: the pipeline's proof data, its body from the kernel's, and the run of the whole program.
-/
module

public import proofs.«01_k».proof.Proof.KI.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Allreduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-- The devices' inputs in the memory `m`. -/
def inp : Inp F where
  x c := (win0_0.blk (0 : Fin 1)).view.read (Elt F) (m ((c : Thread nD τ).loc main_arg0))
  r c := m ((c : Thread nD τ).loc main_arg1)
  g c := (win0_1.blk (0 : Fin 1)).view.read (Elt F) (m ((c : Thread nD τ).loc main_arg2))

/-- The residual, which the kernel reads where it lies; -/
def resPts : sProp 𝕄 := iprop((c : Thread nD τ).loc main_arg1 ↦{fullShare} m ((c : Thread nD τ).loc main_arg1))
/-- the scratch buffers. -/
def scr : sProp 𝕄 := iprop(ra c aM 0 1024 ∗ ra c lM 0 256 ∗ bigSep Finset.univ fun k : Fin 6 => ra c (bM k) 0 (rs k))

omit [FloatOps F] in
theorem ra_all {sp : Space} {n : ℕ} (M : Memref sig .tc sp ⟨2, ![n, 1024]⟩ .f32) (hM : M.view.set = Finset.univ) :
    (ra c M 0 n : sProp 𝕄) = iprop(∃ f : Buf (Elt F) (M.view.loc (c : Thread nD τ)), (M.view.loc (c : Thread nD τ) ↦{fullShare} f)) := by
  unfold ra; rw [rowSet_all M hM]

omit [FloatOps F] in
theorem bM_set (k : Fin 6) : (bM k).view.set = Finset.univ := by fin_cases k <;> exact View.set_whole _

omit [FloatOps F] in
theorem rotate8 (A0 A1 A2 A3 A4 A5 A6 A7 : sProp 𝕄) : iprop(A0 ∗ A1 ∗ A2 ∗ A3 ∗ A4 ∗ A5 ∗ A6 ∗ A7) = iprop(A0 ∗ A7 ∗ A1 ∗ A2 ∗ A3 ∗ A4 ∗ A5 ∗ A6) := by
  have h1 : iprop(A0 ∗ A1 ∗ A2 ∗ A3 ∗ A4 ∗ A5 ∗ A6 ∗ A7) ⊢ iprop(A0 ∗ A7 ∗ A1 ∗ A2 ∗ A3 ∗ A4 ∗ A5 ∗ A6) := by
    iintro ⟨H0, H1, H2, H3, H4, H5, H6, H7⟩
    isplitl [H0]; · iexact H0
    isplitl [H7]; · iexact H7
    isplitl [H1]; · iexact H1
    isplitl [H2]; · iexact H2
    isplitl [H3]; · iexact H3
    isplitl [H4]; · iexact H4
    isplitl [H5]; · iexact H5
    iexact H6
  have h2 : iprop(A0 ∗ A7 ∗ A1 ∗ A2 ∗ A3 ∗ A4 ∗ A5 ∗ A6) ⊢ iprop(A0 ∗ A1 ∗ A2 ∗ A3 ∗ A4 ∗ A5 ∗ A6 ∗ A7) := by
    iintro ⟨H0, H7, H1, H2, H3, H4, H5, H6⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  exact BI.Entails.antisymm h1 h2

omit [FloatOps F] in
theorem scr_eq : (Pipeline.scopedRest (Ix := Unit) (Name := ℕ) (U := UU) (Lvl := ℕ) (Val := Elt F) spec0 c : sProp 𝕄) = scr c := by
  unfold scr
  rw [bigSep_six, ra_all c aM (View.set_whole _), ra_all c lM (View.set_whole _), ra_all c (bM 0) (bM_set 0), ra_all c (bM 1) (bM_set 1), ra_all c (bM 2) (bM_set 2),
    ra_all c (bM 3) (bM_set 3), ra_all c (bM 4) (bM_set 4), ra_all c (bM 5) (bM_set 5), scopedRest0_eq]
  exact rotate8 _ _ _ _ _ _ _ _

/-- What a device's body starts from beside its staging and scratch buffers; -/
def start : sProp 𝕄 :=
  iprop((∃ K, records (inp m) K) ∗ levAts L lv ∗ resPts m c ∗ (bigSep Finset.univ fun a : Fin 3 => dutyTok ER (barCell (peer a c)) 0 a)
    ∗ cred (tallyAt (barCell c) () 3) ∗ atPos ER (barCell c) 0 ∅ 0 ∗ gk0 c)
def Φ₀ : sProp 𝕄 := iprop(start m c ∗ scr c)
/-- and ends with. -/
def Φ₁ : sProp 𝕄 := iprop(resPts m c ∗ scr c ∗ semVal (barCell c) 0 ∗ gk1 c)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).g c
    | ⟨2, _⟩ => outv (inp m) c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
def bodyPost : sProp 𝕄 :=
  iprop(Φ₁ m c ∗ (dats m 0 c).owesAt () t₀.succ ∗ stg c cc0_stg0_0 ((inp m).x c) ∗ stg c cc0_stg1_0 ((inp m).g c) ∗ stg c cc0_stg2_0 (outv (inp m) c))

theorem body_run : bodyPre m c ⊢ wpc c kernelP fun _ => bodyPost m c := by
  unfold bodyPre Φ₀ start scr
  unfold Dat.owesAt Pipeline.owesWithin
  iintro ⟨⟨⟨⟨%K, #HR⟩, #Hlev, Hres, Ht, Hc, Hat, Hk⟩, ⟨HA, HL, HB⟩⟩, ⟨%W, -, HO⟩, ⟨%d0, %g0, %hg0, Hx⟩, ⟨%d1, %g1, %hg1, Hg⟩, ⟨%d2, %g2, -, Ho⟩⟩
  have hx : g0 = (inp m).x c := by rw [hg0]; unfold Dat.before; rw [if_pos (fetch0_0 t₀)]; rfl
  have hg : g1 = (inp m).g c := by rw [hg1]; unfold Dat.before; rw [if_pos (fetch0_1 t₀)]; rfl
  subst hx; subst hg
  iapply (sound_body (inp m) K c) $$ [Hres Ht Hc Hat Hk HA HL HB HO Hx Hg Ho]
  · isplitr; · iexact HR
    isplitr; · iexact Hlev
    unfold bodyIn W0 gPts
    isplitl [Hx Hres HA HL HB Ho]
    · isplitl [Hx]; · iexact Hx
      isplitl [Hres]; · unfold resPts; iexact Hres
      isplitl [HA]; · iexact HA
      isplitl [HL]; · iexact HL
      isplitl [HB]; · iexact HB
      rw [ra_all c oM (View.set_whole _)]
      iexists g2; iexact Ho
    isplitl [Hg]; · iexact Hg
    isplitl [HO]; · iexists W; iexact HO
    isplitl [Ht]; · iexact Ht
    isplitl [Hc]; · iexact Hc
    isplitl [Hat]; · iexact Hat
    iexact Hk
  iintro H
  unfold bodyOut W1 gPts
  icases H with ⟨⟨Hx, Hres, HA, HL, HB, Ho⟩, Hg, ⟨%W', HO⟩, Hz, Hk⟩
  unfold bodyPost Φ₁ scr
  unfold Dat.owesAt Pipeline.owesWithin
  isplitl [Hres HA HL HB Hz Hk]
  · isplitl [Hres]; · unfold resPts; iexact Hres
    isplitl [HA HL HB]
    · isplitl [HA]; · iexact HA
      isplitl [HL]; · iexact HL
      iexact HB
    isplitl [Hz] <;> iassumption
  isplitl [HO]
  · iexists W'; isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Ho

set_option maxRecDepth 65536 in
/-- The pipeline's body is the kernel's. -/
theorem body_obligation (c : Dev nD) : BodyObligation (dats (F := F) m 0 c) (defs₀ (F := F)) 𝒱₀ () Set.univ := fun t => by
  rw [show t = t₀ from fin_N0 t]
  rw [bigSep_W0, bigSep_W0]
  simp only [owns_whole_eq]
  show bodyPre m c ⊢ wpc c
    (cc0_body xM (Memref.isWhole_whole _) rM (Memref.isWhole_whole _) gM (Memref.isWhole_whole _) oM (Memref.isWhole_whole _) aM (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _)
      lM (Memref.isWhole_whole _) cc0_scratch8 cc0_scratch9 cc0_scratch10) (fun _ => bodyPost m c)
  rw [body_eq]
  exact body_run m c

/-! ## The launch theorem's side conditions -/

theorem ownSemFacts : Pipeline.OwnSemFacts cfg0.spec osem where
  isScoped := by decide
  inj := fun a b h => dsem_inj (SemLoc.dma.inj h)
  disj := by decide

theorem share_eq (w : Fin cfg0.W) : (dats m 0 c).share w = fullShare := by unfold Dat.share; split <;> rfl

omit [FloatOps F] in
/-- A staging semaphore is below everything a device owes at launch. -/
theorem mayWait_stage (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · have key {g : GSem nD τ sig} {u : Unit} (hg : 0 < O₀ c g u) : g.1.2 = .tc ∧ 0 < lv g u := by
      unfold O₀ at hg
      rw [Pi.add_apply, Finsupp.add_apply, Pi.add_apply, Finsupp.add_apply, Pi.add_apply, Finsupp.add_apply] at hg
      have bar (a : Fin 3) (h : 0 < (tallyAt (barCell (peer a c)) () 1 : CellTallies nD τ sig Unit) g u) : g.1.2 = .tc ∧ 0 < lv g u := by
        rw [tallyAt_apply] at h
        by_cases h' : g = barCell (peer a c) ∧ u = ()
        · rw [h'.1]; exact ⟨rfl, Nat.one_pos⟩
        · rw [if_neg h'] at h; exact absurd h (Nat.lt_irrefl 0)
      by_cases h0 : 0 < (tallyAt (barCell (peer 0 c)) () 1 : CellTallies nD τ sig Unit) g u
      · exact bar 0 h0
      by_cases h1 : 0 < (tallyAt (barCell (peer 1 c)) () 1 : CellTallies nD τ sig Unit) g u
      · exact bar 1 h1
      by_cases h2 : 0 < (tallyAt (barCell (peer 2 c)) () 1 : CellTallies nD τ sig Unit) g u
      · exact bar 2 h2
      obtain ⟨x, _, rfl⟩ := Ow_pos (show 0 < Ow c sends g u by omega)
      exact ⟨rfl, by rw [lv_dma]; show 0 < 2 + seqNo x.1 x.2; omega⟩
    refine MayOwe.of_cut (L := L) (lev := lv) 0 (fun p hp => by rw [Finset.mem_singleton.mp hp, L_tc]; exact Finset.mem_singleton_self _)
      (fun g u hg => by unfold L; rw [if_pos (key hg).1]; exact Finset.mem_singleton_self _)
      (fun p hp => by rw [Finset.mem_singleton.mp hp]; dsimp only [lv]; rw [hq])
      (fun g u hg => (key hg).2)
  · rw [MayWait_zero]; iintro -; iempintro

theorem waits : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

omit [FloatOps F] in
theorem rest_eq (V : (b : Ref sig .tc) → Buf (Elt F) ((c : Thread nD τ).loc b)) :
    (Pipeline.unscopedRestP (Ix := Unit) (Name := ℕ) (U := UU) (Lvl := ℕ) Pipeline.Prefetch.none spec0 c V : sProp 𝕄)
      = iprop((((c : Thread nD τ).loc main_arg1) ↦{fullShare} V main_arg1)) :=
  Pipeline.unscopedRestP_eq_of_list spec0 c Pipeline.Prefetch.none V [main_arg1] (by decide) (by decide)

theorem start_intro :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  rw [show (Pipeline.unscopedRestP Pipeline.Prefetch.none cfg0.spec c (fun b => m ((c : Thread nD τ).loc b)) : sProp 𝕄) = resPts m c from rest_eq c _]
  unfold G' lin payToks
  rw [cis]
  iintro ⟨Hres, #Hlev, Hcr, -, %K, #HR, ⟨Hab, Hat⟩, Htb, Ht⟩
  ihave Hc := (creds (F := F) c) $$ Hcr
  icases Hc with ⟨Hcb, Hc⟩
  imodintro
  unfold start
  isplitl
  · isplitr; · iexists K; iexact HR
    isplitr; · iexact Hlev
    isplitl [Hres]; · iexact Hres
    isplitl [Htb]; · iexact Htb
    isplitl [Hcb]; · iexact Hcb
    isplitl [Hab]; · iexact Hab
    iapply (gk0_intro (F := F) c)
    isplitl [Hat]; · iexact Hat
    isplitl [Ht]; · iexact Ht
    iexact Hc
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = scr c from scr_eq c]
  unfold Φ₀
  iintro ⟨Hs, -, Hr⟩
  isplitl [Hs] <;> iassumption

theorem phi1_exit :
    (dats m 0 c).Φ (Fin.last cfg0.N) ⊢ iprop((unscopedSems0 c ∗ resPts m c) ∗ Pipeline.ownSems0 osem c ∗ Pipeline.scopedRest cfg0.spec c) := by
  rw [show (dats m 0 c).Φ (Fin.last cfg0.N) = Φ₁ m c from rfl, show (Pipeline.scopedRest cfg0.spec c : sProp 𝕄) = scr c from scr_eq c, unscopedSems0_eq]
  unfold Φ₁
  iintro ⟨Hr, Hs, Hz, Hk⟩
  isplitl [Hz Hr]
  · isplitl [Hz] <;> iassumption
  isplitl [Hk]
  · iapply (gk1_own (F := F) c); iexact Hk
  iexact Hs

/-! ## The run -/

def finalA (c : Dev nD) (w : Fin cfg0.W) : Buf (Elt F) ((cfg0.win w).arr.view.loc (c : Thread nD τ)) := (dats m 0 c).arrAt w cfg0.N

/-- The windows' arrays at their final contents, the residual as it was. -/
def QC : PUnit × MemSt nD τ sig (Elt F) → Prop := fun r => ∀ c : Dev nD,
  (∀ w : Fin cfg0.W, r.2.mem ((cfg0.win w).arr.view.loc (c : Thread nD τ)) = finalA m c w)
    ∧ r.2.mem ((c : Thread nD τ).loc main_arg1) = m ((c : Thread nD τ).loc main_arg1)

/-- What the exit tells of the memory. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

omit [FloatOps F] in
theorem res_read (s' : Phys nD τ sig (Elt F)) : iprop(resPts m c ∗ SI s')
    ⊢ iprop(⌜s'.mem.mem ((c : Thread nD τ).loc main_arg1) = m ((c : Thread nD τ).loc main_arg1)⌝ ∗ SI s' : sProp 𝕄) := by
  have h := pointsTo_read_all (Ix := Unit) (Name := ℕ) (U := UU) (Lvl := ℕ) (Val := Elt F) ({()} : Finset Unit) (fun _ => (c : Thread nD τ).loc main_arg1)
    (fun _ => m ((c : Thread nD τ).loc main_arg1)) s'
  rw [bigSep_singleton] at h
  unfold resPts
  iintro H
  ihave H := h $$ H
  icases H with ⟨%h, H⟩
  isplitr; · ipureintro; exact h () (Finset.mem_singleton_self _)
  iexact H

theorem exit_read (c : Dev nD) (s' : Phys nD τ sig (Elt F)) :
    iprop((unscopedSems0 c ∗ resPts m c) ∗ emp ∗ SI s') ⊢ (|={Set.univ}=> iprop(⌜QY m c s'.mem⌝ ∗ SI s') : sProp 𝕄) := by
  iintro ⟨⟨Hu, Hr⟩, -, HSI⟩
  ihave H := (res_read m c s') $$ [Hr HSI]
  · isplitl [Hr] <;> iassumption
  icases H with ⟨%hr, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, hr⟩
  iexact HSI

set_option maxRecDepth 65536 in
/-- Every weakly fair run ends, each window's array at its final contents, the residual unchanged, every semaphore at zero. -/
theorem run_main : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start m) (Y := fun c => iprop(unscopedSems0 c ∗ resPts m c)) (Z := fun _ => iprop(emp))
    (hX := start_intro m ρ) (hin := phi0_intro m) (hout := phi1_exit m)
    (QY := QY m) (hY := exit_read m)
    (hQ := fun _ h hs => ⟨fun c => ⟨fun w => (h c).1 w, (h c).2.2.2⟩, sem_eq_zero hs fun c => (h c).2.2.1⟩)

/-- The argument arrays after the run hold what they held; -/
theorem finalA_x : finalA m c (0 : Fin 3) = m ((c : Thread nD τ).loc main_arg0) := (dats (F := F) m 0 c).arrAt_in (0 : Fin 3) rfl _
theorem finalA_g : finalA m c (1 : Fin 3) = m ((c : Thread nD τ).loc main_arg2) := (dats (F := F) m 0 c).arrAt_in (1 : Fin 3) rfl _

end Cert.KernelIdeal.Allreduce

end
-- ==== Proof.KI.Value.lean ====
/-
  The value of the kernel on the extended reals: every device's result is the sum of all devices' blocks plus the residual, each row
  divided by the root of its mean square plus a small constant and multiplied by the scale.
-/
module

public import proofs.«01_k».proof.Proof.KI.Launch
public import Idealize.ShloMosaic.Lib.Pointwise

@[expose] public section

noncomputable section

namespace Cert.KernelIdeal.Allreduce

open Cert.KernelIdeal Cert.KernelIdeal.Gen
open Idealize.ShloMosaic Idealize.ShloMosaic.TcCoe
open Idealize.SL.Sem
open Idealize.ShloMosaic.Pipeline (Dat)

/-- An entry of a row divided by the root of the row's mean square plus a small constant, times a scale. -/
def nrm (y : Fin 1024 → EReal) (g : EReal) (j : Fin 1024) : EReal :=
  Ideal.div (y j) (Ideal.sqrt (Ideal.div (∑ l, y l * y l) (Ideal.ofBits .f32 0x44800000#32) + Ideal.ofBits .f32 0x358637BD#32)) * g

/-- The rows a device finishes, at an entry. -/
theorem pay2_apply : ∀ (k : Fin 6) (v w r : Vec Ideal (SQ k) .f32) (g : Vec Ideal S1024 .f32) (i : Fin (qs k)) (j : Fin 1024),
    pay2 (F := Ideal) k v w r g (ix2 i j)
      = nrm (fun l => (show EReal from v (ix2 i l)) + (show EReal from w (ix2 i l)) + (show EReal from r (ix2 i l))) (g (ix1 j)) j
  | 0, v, w, r, g, i, j => by
    change pay2 (F := Ideal) 0 v w r g (ix2 (n0 := 48) i j) = _
    pointwise [pay2, paySum, qs, nrm]
  | 1, v, w, r, g, i, j => by
    change pay2 (F := Ideal) 1 v w r g (ix2 (n0 := 40) i j) = _
    pointwise [pay2, paySum, qs, nrm]
  | 2, v, w, r, g, i, j => by
    change pay2 (F := Ideal) 2 v w r g (ix2 (n0 := 48) i j) = _
    pointwise [pay2, paySum, qs, nrm]
  | 3, v, w, r, g, i, j => by
    change pay2 (F := Ideal) 3 v w r g (ix2 (n0 := 40) i j) = _
    pointwise [pay2, paySum, qs, nrm]
  | 4, v, w, r, g, i, j => by
    change pay2 (F := Ideal) 4 v w r g (ix2 (n0 := 40) i j) = _
    pointwise [pay2, paySum, qs, nrm]
  | 5, v, w, r, g, i, j => by
    change pay2 (F := Ideal) 5 v w r g (ix2 (n0 := 40) i j) = _
    pointwise [pay2, paySum, qs, nrm]

/-- The devices as a device reaches them by its three partners. -/
theorem reach : ∀ (k : Fin 6) (c : Dev nD), List.Perm
    [c, sg k 0 c, sg k 1 c, sg k 0 (sg k 1 c), sg k 2 c, sg k 0 (sg k 2 c), sg k 1 (sg k 2 c), sg k 0 (sg k 1 (sg k 2 c))] (List.finRange 8) := by decide

/-- So the four and four devices' sums are the sum over all. -/
theorem sum_reach (k : Fin 6) (c : Dev nD) (f : Dev nD → EReal) :
    ((f c + f (sg k 0 c)) + (f (sg k 1 c) + f (sg k 0 (sg k 1 c))))
      + ((f (sg k 2 c) + f (sg k 0 (sg k 2 c))) + (f (sg k 1 (sg k 2 c)) + f (sg k 0 (sg k 1 (sg k 2 c))))) = ∑ d, f d := by
  have h := ((reach k c).map f).sum_eq
  rw [← List.ofFn_eq_map, List.sum_ofFn] at h
  refine Eq.trans ?_ h
  simp only [List.map_cons, List.map_nil, List.sum_cons, List.sum_nil, add_zero, add_assoc]

variable (I : Inp Ideal)

/-- The sum over all devices plus the residual, at an entry. -/
def tot (c : Dev nD) (row : ℕ) : Fin 1024 → EReal := fun col => (∑ d, (show EReal from Xc I d row col)) + (show EReal from Rc I c row col)

theorem Oc_eq (k : Fin 6) (c : Dev nD) (row : ℕ) (h1 : Q k c ≤ row) (h2 : row < Q k c + qs k) (col : Fin 1024) :
    Oc I k c row col = nrm (tot I c row) (I.g c (ix1 col)) col := by
  have he : Q k c + (row - Q k c) % qs k = row := by rw [Nat.mod_eq_of_lt (by omega)]; omega
  refine (pay2_apply k _ _ _ (I.g c) ⟨(row - Q k c) % qs k, Nat.mod_lt _ (qs_pos k)⟩ col).trans ?_
  congr 1
  funext l
  show (show EReal from Bc I k c (Q k c + (row - Q k c) % qs k) l) + (show EReal from Bc I k (sg k 2 c) (Q k c + (row - Q k c) % qs k) l)
    + (show EReal from Rc I c (Q k c + (row - Q k c) % qs k) l) = _
  rw [he]
  exact congrArg (· + (show EReal from Rc I c row l)) (sum_reach k c fun d => (show EReal from Xc I d row l))

/-- Where all devices hold the same residual and scale, every device's result is that of the sum. -/
theorem Out_eq (hr : ∀ c d, I.r c = I.r d) (hg : ∀ c d, I.g c = I.g d) (c : Dev nD) (row : ℕ) (h : row < 1024) (col : Fin 1024) :
    Out I c row col = nrm (tot I c row) (I.g c (ix1 col)) col := by
  have ht : ∀ d, tot I d row = tot I c row := fun d => by unfold tot Rc; rw [hr d c]
  have key : ∀ k d, (Q k d ≤ row ∧ row < Q k d + qs k) → Oc I k d row col = nrm (tot I c row) (I.g c (ix1 col)) col := fun k d hd => by
    rw [Oc_eq I k d row hd.1 hd.2, ht d, hg d c]
  have k3 : ∀ k d, (H k d ≤ row ∧ row < H k d + hs k) → O3 I k d row col = nrm (tot I c row) (I.g c (ix1 col)) col := fun k d hd => by
    unfold O3
    split_ifs with hq
    · exact key k d hq
    · refine key k _ ?_
      have := Q_cases k d; have := hs_eq k; omega
  have k4 : ∀ k, (base k ≤ row ∧ row < base k + rs k) → Out I c row col = nrm (tot I c row) (I.g c (ix1 col)) col := fun k hk => by
    unfold Out O4
    rw [chunkOf_eq k row hk.1 hk.2]
    split_ifs with hq
    · exact k3 k c hq
    · refine k3 k _ ?_
      have := H_cases k c; have := hs_eq k; have := rs_eq k; omega
  have : (base 0 ≤ row ∧ row < base 0 + rs 0) ∨ (base 1 ≤ row ∧ row < base 1 + rs 1) ∨ (base 2 ≤ row ∧ row < base 2 + rs 2)
      ∨ (base 3 ≤ row ∧ row < base 3 + rs 3) ∨ (base 4 ≤ row ∧ row < base 4 + rs 4) ∨ (base 5 ≤ row ∧ row < base 5 + rs 5) := by
    simp only [base, rs]; omega
  rcases this with h | h | h | h | h | h <;> exact k4 _ h

/-! ## The arrays -/

section
variable {F : FTy → Type} [FloatOps F]
variable (m : (ℓ : Loc nD τ sig) → Buf (Elt F) ℓ) (c : Dev nD)

/-- What the kernel reads of the arguments is all of them; -/
theorem inp_x : (inp m).x c = m ((c : Thread nD τ).loc main_arg0) := by
  unfold inp
  exact Memref.read_access_unit_zero (Elt F) main_arg0 (off := fun a => (win0_0.index (0 : Fin 1)) a * main_arg0.ty.shape.size a)
    (funext fun a => by fin_cases a <;> decide) (fun a => by fin_cases a <;> decide) _
theorem inp_g : (inp m).g c = m ((c : Thread nD τ).loc main_arg2) := by
  unfold inp
  exact Memref.read_access_unit_zero (Elt F) main_arg2 (off := fun a => (win0_1.index (0 : Fin 1)) a * main_arg2.ty.shape.size a)
    (funext fun a => by fin_cases a <;> decide) (fun a => by fin_cases a <;> decide) _

/-- and the result array ends at what the kernel leaves in its staging buffer. -/
theorem finalA_o : finalA m c (2 : Fin 3) = outv (inp m) c := by
  have h : (win0_2.blk (0 : Fin 1)).view.read (Elt F) (finalA m c (2 : Fin 3)) = outv (inp m) c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  rwa [show (win0_2.blk (0 : Fin 1)).view.read (Elt F) (finalA m c (2 : Fin 3)) = finalA m c (2 : Fin 3) from
    Memref.read_access_unit_zero (Elt F) main_v1 (funext fun a => by fin_cases a <;> decide) (fun a => by fin_cases a <;> decide) _] at h
end

end Cert.KernelIdeal.Allreduce

end
-- ==== Proof.RI.Value.lean ====
/-
  The value of the reference on the extended reals, at an entry.
-/
module

public import proofs.«01_k».proof.Proof.Gen.ReferenceIdeal.Run
public import Idealize.ShloMosaic.Lib.Pointwise

@[expose] public section

noncomputable section

namespace Cert.ReferenceIdeal.Normal

open Cert.ReferenceIdeal Cert.ReferenceIdeal.Gen
open Idealize.ShloMosaic Idealize.ShloMosaic.TcCoe
open Idealize.SL.Sem

/-- The blocks' sum plus the residual. -/
abbrev total (x : FVec Ideal S8x1024x1024 .f32) (r : FVec Ideal S1024x1024 .f32) : FVec Ideal S1024x1024 .f32 :=
  addf (Host.reduceAdd x (constant S_ .f32 0x00000000#32) reducesTo_S8x1024x1024_S1024x1024_d0 h_S_) r

/-- The reference's result of its arguments. -/
abbrev result (x : FVec Ideal S8x1024x1024 .f32) (r : FVec Ideal S1024x1024 .f32) (g : FVec Ideal S1024 .f32) : FVec Ideal S1024x1024 .f32 :=
  mulf (Host.divf (total x r) (broadcastInDim S1024x1024 ![0, 1] bcast_S1024x1_S1024x1024_0_1
      (Host.sqrt (addf (Host.divf (broadcastInDim S1024x1 ![0] bcast_S1024_S1024x1_0
          (Host.reduceAdd (mulf (total x r) (total x r)) (constant S_ .f32 0x00000000#32) reducesTo_S1024x1024_S1024_d1 h_S_))
        (broadcastInDim S1024x1 ![] bcast_S_S1024x1 (constant S_ .f32 0x44800000#32)))
        (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1 g))

theorem result_apply (x : FVec Ideal S8x1024x1024 .f32) (r : FVec Ideal S1024x1024 .f32) (g : FVec Ideal S1024 .f32) (i j : Fin 1024) :
    result x r g (ix2 i j)
      = Ideal.div ((∑ d, x (ix3 d i j)) + r (ix2 i j))
          (Ideal.sqrt (Ideal.div (∑ l, ((∑ d, x (ix3 d i l)) + r (ix2 i l)) * ((∑ d, x (ix3 d i l)) + r (ix2 i l))) (Ideal.ofBits .f32 0x44800000#32)
            + Ideal.ofBits .f32 0x358637BD#32)) * g (ix1 j) := by
  pointwise [result, total]

end Cert.ReferenceIdeal.Normal

end
-- ==== Proof.lean ====
/-
  The kernel is an all-reduce over eight devices on a cube, fused with a residual add and a row normalisation. Every device first tells
  its three partners that it has arrived. Its rows are cut into six chunks; for each chunk the devices exchange and add halves across
  one direction, then quarters across a second, then the same quarter across the third, after which four owners of a chunk's quarters
  (two devices each) hold the full sums, finish their rows, and hand the finished rows back in the reverse directions.

  Proof/KI/ has the proof of the program's run for any float values: Prog.lean (the program by chunk), Mesh.lean (the cube),
  Region.lean (bands of rows), Sched.lean (what each transfer carries and when), Step.lean, Mem.lean, Chunk.lean, Run.lean, Rows.lean
  and Body.lean (the body on one device), Deal.lean and Launch.lean (the launch), and Value.lean (the value on the extended reals).
  Proof/K/ is the same for the program before idealization. Proof/RI/Value.lean reads the reference's result at an entry.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Value
public import proofs.«01_k».proof.Proof.RI.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel's run, its arguments kept and its counters back at zero; -/
theorem frame_k : Cert.quiescent_Kernel (hKernel := Cert.Kernel.Gen.facts) := fun m ρ _ =>
  (θ_run Cert.Kernel.defs _ _).mono
    (fun _ h => ⟨fun c => ⟨((h.1 c).1 (0 : Fin 3)).trans (Cert.Kernel.Allreduce.finalA_x m c), (h.1 c).2,
      ((h.1 c).1 (1 : Fin 3)).trans (Cert.Kernel.Allreduce.finalA_g m c)⟩, h.2⟩)
    (Cert.Kernel.Allreduce.run_main (F := Bits) m ρ)

/-- the same of the idealized kernel; -/
theorem frame_ki : Cert.quiescent_KernelIdeal (hKernelIdeal := Cert.KernelIdeal.Gen.facts) := fun m ρ _ =>
  (θ_run Cert.KernelIdeal.defs _ _).mono
    (fun _ h => ⟨fun c => ⟨((h.1 c).1 (0 : Fin 3)).trans (Cert.KernelIdeal.Allreduce.finalA_x m c), (h.1 c).2,
      ((h.1 c).1 (1 : Fin 3)).trans (Cert.KernelIdeal.Allreduce.finalA_g m c)⟩, h.2⟩)
    (Cert.KernelIdeal.Allreduce.run_main (F := Ideal) m ρ)

/-- and of the reference, which has no counter. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal.Allreduce in
/-- Devices that hold the blocks of `x` and all of the residual and the scale end with the reference's result. -/
theorem value (I : Inp Ideal) (x : FVec Ideal Cert.ReferenceIdeal.S8x1024x1024 .f32) (r : FVec Ideal Cert.ReferenceIdeal.S1024x1024 .f32)
    (g : FVec Ideal Cert.ReferenceIdeal.S1024 .f32) (hx : ∀ c, I.x c = Layout.block ⟨3, ![1, 1024, 1024]⟩ ⟨3, ![8, 1024, 1024]⟩ 0 8 c x)
    (hr : ∀ c, I.r c = r) (hg : ∀ c, I.g c = g) (c : Fin 8) : outv I c = Cert.ReferenceIdeal.Normal.result x r g := by
  funext i
  obtain ⟨a, b, rfl⟩ : ∃ a b : Fin 1024, i = ix2 a b := ⟨i 0, i 1, by funext z; fin_cases z <;> rfl⟩
  rw [Cert.ReferenceIdeal.Normal.result_apply]
  refine (Out_eq I (fun c d => (hr c).trans (hr d).symm) (fun c d => (hg c).trans (hg d).symm) c a.val a.isLt b).trans ?_
  have ha : Fin.ofNat 1024 a.val = a := Fin.ext (Nat.mod_eq_of_lt a.isLt)
  have ht : tot I c a.val = fun l => (∑ d : Fin 8, x (ix3 d a l)) + r (ix2 a l) := by
    funext l
    unfold tot Xc Rc
    rw [ha]
    refine congrArg₂ (· + ·) (Finset.sum_congr rfl fun d _ => ?_) (congrFun (hr c) _)
    rw [hx d]
    refine congrArg x ?_
    funext z
    fin_cases z
    · exact Fin.ext (by show d.val * 1 + 0 = d.val; omega)
    · rfl
    · rfl
  rw [ht, hg c]
  rfl

/-- The idealized kernel on eight devices computes what the reference does on one. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨Cert.ReferenceIdeal.Normal.result (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · refine (θ_run Cert.KernelIdeal.defs _ _).mono
      (fun _ h c => ⟨(((h.1 c).1 (2 : Fin 3)).trans (Cert.KernelIdeal.Allreduce.finalA_o m c)).trans ?_,
        ((h.1 c).1 (0 : Fin 3)).trans (Cert.KernelIdeal.Allreduce.finalA_x m c), (h.1 c).2,
        ((h.1 c).1 (1 : Fin 3)).trans (Cert.KernelIdeal.Allreduce.finalA_g m c)⟩)
      (Cert.KernelIdeal.Allreduce.run_main (F := Ideal) m ρ)
    exact value _ _ _ _ (fun d => (Cert.KernelIdeal.Allreduce.inp_x m d).trans (hagree d).1) (fun d => (hagree d).2.1)
      (fun d => (Cert.KernelIdeal.Allreduce.inp_g m d).trans (hagree d).2.2) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_k, frame_ki, frame_ri, trivial, algebraic⟩

end Cert.Proof

end
